-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x2048x6912 : Shape := ⟨3, ![16, 2048, 6912]⟩
abbrev S32768x6912 : Shape := ⟨2, ![32768, 6912]⟩
abbrev S256x256 : Shape := ⟨2, ![256, 256]⟩
abbrev S_ : Shape := ⟨0, ![]⟩
abbrev S32768x3456 : Shape := ⟨2, ![32768, 3456]⟩
abbrev S16x432x2048 : Shape := ⟨3, ![16, 432, 2048]⟩
abbrev S128x1x256 : Shape := ⟨3, ![128, 1, 256]⟩
abbrev S256x6912 : Shape := ⟨2, ![256, 6912]⟩
abbrev S256x3456 : Shape := ⟨2, ![256, 3456]⟩
abbrev S1x432x256 : Shape := ⟨3, ![1, 432, 256]⟩
abbrev S1x1x256 : Shape := ⟨3, ![1, 1, 256]⟩
abbrev S6912x256 : Shape := ⟨2, ![6912, 256]⟩
abbrev S2x3488x128 : Shape := ⟨3, ![2, 3488, 128]⟩
abbrev S432x256 : Shape := ⟨2, ![432, 256]⟩
abbrev S8x256 : Shape := ⟨2, ![8, 256]⟩
abbrev S8x128 : Shape := ⟨2, ![8, 128]⟩
abbrev S1x8x128 : Shape := ⟨3, ![1, 8, 128]⟩
abbrev S1x432x128 : Shape := ⟨3, ![1, 432, 128]⟩
abbrev S432x128 : Shape := ⟨2, ![432, 128]⟩
abbrev S128 : Shape := ⟨1, ![128]⟩
abbrev S1x128 : Shape := ⟨2, ![1, 128]⟩
abbrev S1x1x128 : Shape := ⟨3, ![1, 1, 128]⟩
abbrev S16x256 : Shape := ⟨2, ![16, 256]⟩
abbrev S1x256 : Shape := ⟨2, ![1, 256]⟩
abbrev S32x8x256 : Shape := ⟨3, ![32, 8, 256]⟩
abbrev S32x256 : Shape := ⟨2, ![32, 256]⟩
abbrev S128x256 : Shape := ⟨2, ![128, 256]⟩
abbrev S256x128 : Shape := ⟨2, ![256, 128]⟩
abbrev S16x2048x3456 : Shape := ⟨3, ![16, 2048, 3456]⟩
abbrev S16x2048x432 : Shape := ⟨3, ![16, 2048, 432]⟩
abbrev S16x2048 : Shape := ⟨2, ![16, 2048]⟩

abbrev nBuf : Space → Nat
  | .hbm => 15
  | .vmem => 12
  | .smem => 0
  | _ => 0

abbrev bufTy : (tb : Table) → Fin (tcTables nBuf tb) → BufTy
  | .hbm, ⟨0, _⟩ => ⟨S16x2048x6912, .bf16⟩
  | .hbm, ⟨1, _⟩ => ⟨S32768x6912, .bf16⟩
  | .hbm, ⟨2, _⟩ => ⟨S256x256, .i32⟩
  | .hbm, ⟨3, _⟩ => ⟨S256x256, .i32⟩
  | .hbm, ⟨4, _⟩ => ⟨S_, .i32⟩
  | .hbm, ⟨5, _⟩ => ⟨S256x256, .i32⟩
  | .hbm, ⟨6, _⟩ => ⟨S256x256, .i32⟩
  | .hbm, ⟨7, _⟩ => ⟨S256x256, .i1⟩
  | .hbm, ⟨8, _⟩ => ⟨S256x256, .bf16⟩
  | .hbm, ⟨9, _⟩ => ⟨S32768x3456, .i8⟩
  | .hbm, ⟨10, _⟩ => ⟨S16x432x2048, .fp8e4m3⟩
  | .hbm, ⟨11, _⟩ => ⟨S128x1x256, .f32⟩
  | .hbm, ⟨12, _⟩ => ⟨S16x2048x3456, .i8⟩
  | .hbm, ⟨13, _⟩ => ⟨S16x2048x432, .fp8e4m3⟩
  | .hbm, ⟨14, _⟩ => ⟨S16x2048, .f32⟩
  | .local _ .vmem, ⟨0, _⟩ => ⟨S256x6912, .bf16⟩
  | .local _ .vmem, ⟨1, _⟩ => ⟨S256x6912, .bf16⟩
  | .local _ .vmem, ⟨2, _⟩ => ⟨S256x256, .bf16⟩
  | .local _ .vmem, ⟨3, _⟩ => ⟨S256x3456, .i8⟩
  | .local _ .vmem, ⟨4, _⟩ => ⟨S256x3456, .i8⟩
  | .local _ .vmem, ⟨5, _⟩ => ⟨S1x432x256, .fp8e4m3⟩
  | .local _ .vmem, ⟨6, _⟩ => ⟨S1x432x256, .fp8e4m3⟩
  | .local _ .vmem, ⟨7, _⟩ => ⟨S1x1x256, .f32⟩
  | .local _ .vmem, ⟨8, _⟩ => ⟨S1x1x256, .f32⟩
  | .local _ .vmem, ⟨9, _⟩ => ⟨S6912x256, .f32⟩
  | .local _ .vmem, ⟨10, _⟩ => ⟨S2x3488x128, .f32⟩
  | .local _ .vmem, ⟨11, _⟩ => ⟨S432x256, .f32⟩
  | _, _ => ⟨S16x2048x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7_0 : Ref sig .tc := ⟨.hbm, 9, rfl⟩
abbrev main_v7_1 : Ref sig .tc := ⟨.hbm, 10, rfl⟩
abbrev main_v7_2 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x6912 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3456 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x432x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x2048x6912 : Shape := ⟨3, ![16, 2048, 6912]⟩
abbrev S16x2048x3456 : Shape := ⟨3, ![16, 2048, 3456]⟩
abbrev S16x2048x432 : Shape := ⟨3, ![16, 2048, 432]⟩
abbrev S16x2048 : Shape := ⟨2, ![16, 2048]⟩
abbrev S16x2048x432x16 : Shape := ⟨4, ![16, 2048, 432, 16]⟩
abbrev S16x2048x1 : Shape := ⟨3, ![16, 2048, 1]⟩
abbrev S16x2048x432x1 : Shape := ⟨4, ![16, 2048, 432, 1]⟩
abbrev S16x2048x3456x2 : Shape := ⟨4, ![16, 2048, 3456, 2]⟩
abbrev S16x2048x3456x1 : Shape := ⟨4, ![16, 2048, 3456, 1]⟩

abbrev nBuf : Space → Nat
  | .hbm => 4
  | .vmem => 4
  | .smem => 0
  | _ => 0

abbrev bufTy : (tb : Table) → Fin (tcTables nBuf tb) → BufTy
  | .hbm, ⟨0, _⟩ => ⟨S16x2048x6912, .bf16⟩
  | .hbm, ⟨1, _⟩ => ⟨S16x2048x3456, .i8⟩
  | .hbm, ⟨2, _⟩ => ⟨S16x2048x432, .fp8e4m3⟩
  | .hbm, ⟨3, _⟩ => ⟨S16x2048, .f32⟩
  | .local _ .vmem, ⟨0, _⟩ => ⟨S16x2048x6912, .bf16⟩
  | .local _ .vmem, ⟨1, _⟩ => ⟨S16x2048x3456, .i8⟩
  | .local _ .vmem, ⟨2, _⟩ => ⟨S16x2048x432, .fp8e4m3⟩
  | .local _ .vmem, ⟨3, _⟩ => ⟨S16x2048, .f32⟩
  | _, _ => ⟨S16x2048x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x2048x6912 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2048x3456 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x2048x432 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Spec.lean ====
/- What one grid point of the kernel computes, as functions of the block of rows `x0` it reads and of the identity
   matrix `x1`: the transposed tiles, the maxima of the sub-blocks, the scales and the packed codes. -/
module

public import proofs.«01_k».proof.KernelIdeal
public import Idealize.ShloMosaic.Lib.Memref
public import Idealize.ShloMosaic.Lib.Writes

@[expose] public section

set_option maxRecDepth 16384

noncomputable section

namespace Cert.KernelIdeal.Hand

open Idealize.ShloMosaic Idealize.ShloMosaic.TcCoe Idealize.SL.Sem
open Facts Shapes1.Facts₀ Shapes2.Facts₀

variable {F : FTy → Type} [FloatOps F] [Facts]

/-! ## First phase: the tiles transposed, and the maxima of eight rows -/

/-- The columns of tile `t` of the block of rows. -/
abbrev r1 (t : ℕ) : Rect S256x6912 :=
  Rect.unit (s := S256x6912) ![0, 256 * (t % 27)] S256x256.size
    (Fin.forall_fin_two.mpr ⟨(by decide : 0 + 256 ≤ 256), (by have := Nat.mod_lt t (by decide : 0 < 27); omega : 256 * (t % 27) + 256 ≤ 6912)⟩)

/-- The identity matrix as the kernel reads it. -/
def eyeM (x1 : Vec F S256x256 .bf16) : FVec F S256x256 .bf16 :=
  shapeCast S256x256 (fun j => x1 ((Rect.unit (s := S256x256) ![0, 0] S256x256.size inb_S256x256_S256x256_0_0).toLoadRect.idx j)) shapeCasts_S256x256_S256x256

/-- Tile `t` transposed, by its product with the identity. -/
def xt (x0 : Vec F S256x6912 .bf16) (x1 : Vec F S256x256 .bf16) (t : ℕ) : FVec F S256x256 .f32 :=
  matmul dot_S256x256_S256x256_S256x256_1_1_0_0_n_n none (eyeM x1)
    (shapeCast S256x256 (fun j => x0 ((r1 t).toLoadRect.idx j)) shapeCasts_S256x256_S256x256) (constant S256x256 .f32 0x00000000#32)

/-- Where tile `t` is kept, transposed. -/
abbrev r6 (t : ℕ) : Rect S6912x256 :=
  Rect.unit (s := S6912x256) ![256 * (t % 27), 0] S256x256.size
    (Fin.forall_fin_two.mpr ⟨(by have := Nat.mod_lt t (by decide : 0 < 27); omega : 256 * (t % 27) + 256 ≤ 6912), (by decide : 0 + 256 ≤ 256)⟩)

/-- The transposed rows after the first `t` tiles. -/
def A6 (x0 : Vec F S256x6912 .bf16) (x1 : Vec F S256x256 .bf16) (a6 : Vec F S6912x256 .f32) : ℕ → Vec F S6912x256 .f32
  | 0 => a6
  | t + 1 => (r6 t).overlay (A6 x0 x1 a6 t) (shapeCast S256x256 (xt x0 x1 t) shapeCasts_S256x256_S256x256)

theorem slices8 (o : ℕ) (h : o ≤ 248) : S256x256.Slices ![o, 0] S8x256 :=
  ⟨rfl, Fin.forall_fin_two.mpr ⟨(by omega : o + 8 ≤ 256), (by decide : 0 + 256 ≤ 256)⟩⟩

theorem slices128 (p : ℕ) : S8x256.Slices ![0, 128 * (p % 2)] S8x128 :=
  ⟨rfl, Fin.forall_fin_two.mpr ⟨(by decide : 0 + 8 ≤ 8), (by omega : 128 * (p % 2) + 128 ≤ 256)⟩⟩

/-- The larger of rows `16 k + i` and `16 k + 8 + i` of a tile's absolute values, for `i < 8`. -/
def pairMax (a : FVec F S256x256 .f32) (k : ℕ) : FVec F S8x256 .f32 :=
  maximumf (extractStridedSlice S8x256 ![16 * (k % 16), 0] a (slices8 _ (by omega)))
    (extractStridedSlice S8x256 ![16 * (k % 16) + 8, 0] a (slices8 _ (by omega)))

/-- The eight rows of the scratch of maxima that hold half `n % 2` of the block of sub-blocks `n / 2`. -/
abbrev r7 (n : ℕ) : Rect S2x3488x128 :=
  ⟨(⟨![n % 2, n / 2 % 432, 0], S1x8x128.size, ![1, 436, 1],
    Fin.forall_fin_succ.mpr ⟨Or.inr (by have := Nat.mod_lt n (by decide : 0 < 2); show n % 2 + 1 * (1 - 1) < 2; omega),
      Fin.forall_fin_two.mpr ⟨Or.inr (by have := Nat.mod_lt (n / 2) (by decide : 0 < 432); show n / 2 % 432 + 436 * (8 - 1) < 3488; omega),
        Or.inr (by decide : 0 + 1 * (128 - 1) < 128)⟩⟩⟩ : LoadRect S2x3488x128), spos_1_436_1⟩

/-- What is stored there. -/
def pay7 (x0 : Vec F S256x6912 .bf16) (x1 : Vec F S256x256 .bf16) (n : ℕ) : FVec F S1x8x128 .f32 :=
  shapeCast S1x8x128 (extractStridedSlice S8x128 ![0, 128 * (n % 2)] (pairMax (absf (xt x0 x1 (n / 32))) (n / 2)) (slices128 n)) shapeCasts_S8x128_S1x8x128

/-- The scratch of maxima after the first `n` stores. -/
def A7 (x0 : Vec F S256x6912 .bf16) (x1 : Vec F S256x256 .bf16) (a7 : Vec F S2x3488x128 .f32) : ℕ → Vec F S2x3488x128 .f32
  | 0 => a7
  | n + 1 => (r7 n).overlay (A7 x0 x1 a7 n) (pay7 x0 x1 n)

/-- The scratch of transposed rows at the end of the first phase. -/
def T6 (x0 : Vec F S256x6912 .bf16) (x1 : Vec F S256x256 .bf16) (a6 : Vec F S6912x256 .f32) : Vec F S6912x256 .f32 := A6 x0 x1 a6 27

/-- The scratch of maxima at the end of the first phase. -/
def M7 (x0 : Vec F S256x6912 .bf16) (x1 : Vec F S256x256 .bf16) (a7 : Vec F S2x3488x128 .f32) : Vec F S2x3488x128 .f32 := A7 x0 x1 a7 864

/-! ## Second phase: the scales, for one half `p` of the rows at a time -/

/-- Row group `i` of half `p` of the scratch of maxima. -/
abbrev rM (p i : ℕ) : Rect S2x3488x128 :=
  Rect.unit (s := S2x3488x128) ![p % 2, 436 * (i % 8), 0] S1x432x128.size
    (Fin.forall_fin_succ.mpr ⟨(by have := Nat.mod_lt p (by decide : 0 < 2); show p % 2 + 1 ≤ 2; omega),
      Fin.forall_fin_two.mpr ⟨(by have := Nat.mod_lt i (by decide : 0 < 8); show 436 * (i % 8) + 432 ≤ 3488; omega), (by decide : 0 + 128 ≤ 128)⟩⟩)

/-- That group as a matrix: sub-blocks by rows. -/
def grp (M : Vec F S2x3488x128 .f32) (p i : ℕ) : FVec F S432x128 .f32 :=
  shapeCast S432x128 (fun j => M ((rM p i).toLoadRect.idx j)) shapeCasts_S1x432x128_S432x128

/-- The largest absolute value of each sub-block. -/
def blkMax (M : Vec F S2x3488x128 .f32) (p : ℕ) : FVec F S432x128 .f32 :=
  maximumf (maximumf (maximumf (maximumf (maximumf (maximumf (maximumf (grp M p 0) (grp M p 1)) (grp M p 2)) (grp M p 3)) (grp M p 4)) (grp M p 5)) (grp M p 6)) (grp M p 7)

/-- The largest absolute value of each row. -/
def rowMax (M : Vec F S2x3488x128 .f32) (p : ℕ) : FVec F S1x128 .f32 :=
  shapeCast S1x128 (multiReduction .maximumf [0] S128 (blkMax M p) 0xFF800000#32 reduces_S432x128_S128 (.inl rfl) rfl) shapeCasts_S128_S1x128

/-- The scale of each row. -/
def sG (M : Vec F S2x3488x128 .f32) (p : ℕ) : FVec F S1x128 .f32 :=
  select (cmpf .ogt (rowMax M p) (broadcast S1x128 (Scalar.ofBits .f32 0x00000000#32)))
    (divf (rowMax M p) (broadcast S1x128 (Scalar.ofBits .f32 0x45280000#32))) (broadcast S1x128 (Scalar.ofBits .f32 0x3F800000#32))

/-- The scale of each sub-block. -/
def sB (M : Vec F S2x3488x128 .f32) (p : ℕ) : FVec F S432x128 .fp8e4m3 :=
  truncf .fp8e4m3 (minimumf (divf (blkMax M p) (broadcastTo S432x128 (mulf (broadcast S1x128 (Scalar.ofBits .f32 0x40C00000#32)) (sG M p)) broadcasts_S1x128_S432x128))
    (broadcast S432x128 (Scalar.ofBits .f32 0x43E00000#32))) bitsLt_fp8e4m3_f32

/-- The two scales' product. -/
def eff0 (M : Vec F S2x3488x128 .f32) (p : ℕ) : FVec F S432x128 .f32 :=
  mulf (extf .f32 (sB M p) bitsLt_fp8e4m3_f32) (broadcastTo S432x128 (sG M p) broadcasts_S1x128_S432x128)

/-- The reciprocal of the product, of one where the product is zero. -/
def recip (M : Vec F S2x3488x128 .f32) (p : ℕ) : FVec F S432x128 .f32 :=
  divf (broadcast S432x128 (Scalar.ofBits .f32 0x3F800000#32))
    (select (cmpf .oeq (eff0 M p) (broadcast S432x128 (Scalar.ofBits .f32 0x00000000#32))) (broadcast S432x128 (Scalar.ofBits .f32 0x3F800000#32)) (eff0 M p))

abbrev r8 (p : ℕ) : Rect S432x256 :=
  Rect.unit (s := S432x256) ![0, 128 * (p % 2)] S432x128.size
    (Fin.forall_fin_two.mpr ⟨(by decide : 0 + 432 ≤ 432), (by omega : 128 * (p % 2) + 128 ≤ 256)⟩)
abbrev r5 (p : ℕ) : Rect S1x1x256 :=
  Rect.unit (s := S1x1x256) ![0, 0, 128 * (p % 2)] S1x1x128.size
    (Fin.forall_fin_succ.mpr ⟨(by decide : 0 + 1 ≤ 1), Fin.forall_fin_two.mpr ⟨(by decide : 0 + 1 ≤ 1), (by show 128 * (p % 2) + 128 ≤ 256; omega)⟩⟩)
abbrev r4 (p : ℕ) : Rect S1x432x256 :=
  Rect.unit (s := S1x432x256) ![0, 0, 128 * (p % 2)] S1x432x128.size
    (Fin.forall_fin_succ.mpr ⟨(by decide : 0 + 1 ≤ 1), Fin.forall_fin_two.mpr ⟨(by decide : 0 + 432 ≤ 432), (by show 128 * (p % 2) + 128 ≤ 256; omega)⟩⟩)

/-- The reciprocals after the first `p` halves, -/
def A8 (M : Vec F S2x3488x128 .f32) (a8 : Vec F S432x256 .f32) : ℕ → Vec F S432x256 .f32
  | 0 => a8
  | p + 1 => (r8 p).overlay (A8 M a8 p) (shapeCast S432x128 (recip M p) shapeCasts_S432x128_S432x128)
/-- the rows' scales, -/
def A5 (M : Vec F S2x3488x128 .f32) (a5 : Vec F S1x1x256 .f32) : ℕ → Vec F S1x1x256 .f32
  | 0 => a5
  | p + 1 => (r5 p).overlay (A5 M a5 p) (shapeCast S1x1x128 (sG M p) shapeCasts_S1x128_S1x1x128)
/-- and the sub-blocks' scales. -/
def A4 (M : Vec F S2x3488x128 .f32) (a4 : Vec F S1x432x256 .fp8e4m3) : ℕ → Vec F S1x432x256 .fp8e4m3
  | 0 => a4
  | p + 1 => (r4 p).overlay (A4 M a4 p) (shapeCast S1x432x128 (sB M p) shapeCasts_S432x128_S1x432x128)

/-- The reciprocals at the end of the second phase. -/
def R8 (M : Vec F S2x3488x128 .f32) (a8 : Vec F S432x256 .f32) : Vec F S432x256 .f32 := A8 M a8 2

/-! ## Third phase: the codes of one tile -/

/-- The sixteen rows of sub-block `k` of tile `t` among the transposed rows, -/
abbrev rT (t k : ℕ) : Rect S6912x256 :=
  Rect.unit (s := S6912x256) ![256 * (t % 27) + 16 * (k % 16), 0] S16x256.size
    (Fin.forall_fin_two.mpr ⟨(by have := Nat.mod_lt t (by decide : 0 < 27); omega : 256 * (t % 27) + 16 * (k % 16) + 16 ≤ 6912), (by decide : 0 + 256 ≤ 256)⟩)
/-- and its row of reciprocals. -/
abbrev rR (t k : ℕ) : Rect S432x256 :=
  Rect.unit (s := S432x256) ![16 * (t % 27) + k % 16, 0] S1x256.size
    (Fin.forall_fin_two.mpr ⟨(by have := Nat.mod_lt t (by decide : 0 < 27); omega : 16 * (t % 27) + k % 16 + 1 ≤ 432), (by decide : 0 + 256 ≤ 256)⟩)

/-- Sub-block `k` of tile `t`, scaled. -/
def piece (T : Vec F S6912x256 .f32) (R : Vec F S432x256 .f32) (t k : ℕ) : FVec F S16x256 .f32 :=
  mulf (fun j => T ((rT t k).toLoadRect.idx j)) (broadcastTo S16x256 (fun j => R ((rR t k).toLoadRect.idx j)) broadcasts_S1x256_S16x256)

/-- Tile `t`, scaled. -/
def tile (T : Vec F S6912x256 .f32) (R : Vec F S432x256 .f32) (t : ℕ) : FVec F S256x256 .f32 :=
  concatenate S256x256 0 [⟨S16x256, piece T R t 0⟩, ⟨S16x256, piece T R t 1⟩, ⟨S16x256, piece T R t 2⟩, ⟨S16x256, piece T R t 3⟩,
    ⟨S16x256, piece T R t 4⟩, ⟨S16x256, piece T R t 5⟩, ⟨S16x256, piece T R t 6⟩, ⟨S16x256, piece T R t 7⟩,
    ⟨S16x256, piece T R t 8⟩, ⟨S16x256, piece T R t 9⟩, ⟨S16x256, piece T R t 10⟩, ⟨S16x256, piece T R t 11⟩,
    ⟨S16x256, piece T R t 12⟩, ⟨S16x256, piece T R t 13⟩, ⟨S16x256, piece T R t 14⟩, ⟨S16x256, piece T R t 15⟩]
    concatenates_S16x256_S16x256_S16x256_S16x256_S16x256_S16x256_S16x256_S16x256_S16x256_S16x256_S16x256_S16x256_S16x256_S16x256_S16x256_S16x256_S256x256_d0

/-- The tile clamped to the format's range. -/
def clamp (y : FVec F S256x256 .f32) : FVec F S256x256 .f32 :=
  minimumf (broadcast S256x256 (Scalar.ofBits .f32 0x40C00000#32)) (maximumf (broadcast S256x256 (Scalar.ofBits .f32 0xC0C00000#32)) y)

/-- The codes: how many thresholds the absolute value passes, and eight more below zero. -/
def codes (y : FVec F S256x256 .f32) : IVec S256x256 32 :=
  addi
    (addi (addi (addi (addi (addi (addi
      (extui 32 (cmpf .ogt (absf y) (broadcast S256x256 (Scalar.ofBits .f32 0x3E800000#32))) natLt_1_32)
      (extui 32 (cmpf .oge (absf y) (broadcast S256x256 (Scalar.ofBits .f32 0x3F400000#32))) natLt_1_32))
      (extui 32 (cmpf .ogt (absf y) (broadcast S256x256 (Scalar.ofBits .f32 0x3FA00000#32))) natLt_1_32))
      (extui 32 (cmpf .oge (absf y) (broadcast S256x256 (Scalar.ofBits .f32 0x3FE00000#32))) natLt_1_32))
      (extui 32 (cmpf .ogt (absf y) (broadcast S256x256 (Scalar.ofBits .f32 0x40200000#32))) natLt_1_32))
      (extui 32 (cmpf .oge (absf y) (broadcast S256x256 (Scalar.ofBits .f32 0x40600000#32))) natLt_1_32))
      (extui 32 (cmpf .ogt (absf y) (broadcast S256x256 (Scalar.ofBits .f32 0x40A00000#32))) natLt_1_32))
    (select (cmpf .olt y (broadcast S256x256 (Scalar.ofBits .f32 0x00000000#32))) (broadcast S256x256 8#32) (broadcast S256x256 0#32))

/-- Eight rows' codes in one word. -/
def words (q : IVec S256x256 32) : IVec S32x256 32 :=
  multiReductionI .add [1] S32x256
    (shli (shapeCast S32x8x256 q shapeCasts_S256x256_S32x8x256) (muli (broadcast S32x8x256 4#32) (iota .tc S32x8x256 32 [1] iota_S32x8x256_d1_w32)))
    0#32 reduces_S32x8x256_S32x256 rfl

/-- The sign bit dropped from the codes whose other bits are zero. -/
def noNegZero (w : IVec S32x256 32) : IVec S32x256 32 :=
  andi w (ori (addi (andi w (broadcast S32x256 2004318071#32)) (broadcast S32x256 2004318071#32)) (broadcast S32x256 2004318071#32))

/-- The words' bytes, rows along the second axis. -/
def bytes (w : IVec S32x256 32) : IVec S256x128 8 :=
  transpose S256x128 [1, 0] (bitcast S128x256 8 w bitcasts_S32x256_w32_S128x256_w8) transposes_S128x256_p1_0_S256x128

/-- What tile `t` leaves in the packed output. -/
def pay3 (T : Vec F S6912x256 .f32) (R : Vec F S432x256 .f32) (t : ℕ) : IVec S256x128 8 :=
  bytes (noNegZero (words (codes (clamp (tile T R t)))))

abbrev r3 (t : ℕ) : Rect S256x3456 :=
  Rect.unit (s := S256x3456) ![0, 128 * (t % 27)] S256x128.size
    (Fin.forall_fin_two.mpr ⟨(by decide : 0 + 256 ≤ 256), (by have := Nat.mod_lt t (by decide : 0 < 27); omega : 128 * (t % 27) + 128 ≤ 3456)⟩)

/-- The packed output after the first `t` tiles. -/
def A3 (T : Vec F S6912x256 .f32) (R : Vec F S432x256 .f32) (a3 : Vec F S256x3456 .i8) : ℕ → Vec F S256x3456 .i8
  | 0 => a3
  | t + 1 => (r3 t).overlay (A3 T R a3 t) (pay3 T R t)

end Cert.KernelIdeal.Hand

end
-- ==== Proof.Rules.lean ====
/- Loads and stores against whole arrays: a memref owned at an array of values is loaded at the array read through
   the rectangle, and stored as the array with the rectangle's part replaced. -/
module

public import Idealize.ShloMosaic.Lib.Claim
public import Idealize.ShloMosaic.Lib.Memref
public import Idealize.ShloMosaic.Lib.Writes
public import Idealize.ShloMosaic.Rules.Step

@[expose] public section

noncomputable section

namespace Cert.Hand

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name] {U : Type} [URA U]
variable {Lvl : Type} {Λ : Labels} [Preorder Lvl]
variable {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load from a memref owned at the array `X` continues at `X` read through the rectangle. -/
theorem wp_load_owns {cs : CoreSpace} {m : Memref sig c.2.kind cs s e} {r : LoadRect s} {hl : m.view.LoadsAt r}
    {k : (r.shape.Idx → Val e) → Prog (TpuEff nD τ sig Val Λ c.2) α} {q : PosShare TreeShare} {X : s.Idx → Val e} :
    owns c m q X
      ⊢ iprop((owns c m q X -∗ wp frame (wpE defs 𝒱 c bd) E (k (fun j => X (r.idx j))) Q)
        -∗ wp frame (wpE defs 𝒱 c bd) E (.op (.load m r hl) k) Q) := by
  iintro H Hk
  ihave H' := (show owns c m q X ⊢ iprop(∃ g, ⌜m.view.read Val g = X⌝ ∗ m.view.loc c ↦[m.view.set]{q} g) from .rfl) $$ H
  icases H' with ⟨%g, %hg, H⟩
  subst hg
  iapply (wp_load (defs := defs) 𝒱 c bd E (m := m) (r := r) (hl := hl) (k := k) (S := m.view.set) (f := g)
    (Finset.map_subset_map.mpr (Finset.subset_univ _))) $$ H
  iintro H
  iapply Hk
  iapply (owns_intro c m q)
  iexact H

/-- A store into a memref owned whole at `X` leaves it owned at `X` with the rectangle's part replaced. -/
theorem wp_store_owns {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    owns c m fullShare X
      ⊢ iprop((owns c m fullShare (r.overlay X w) -∗ wp frame (wpE defs 𝒱 c bd) E (k ⟨⟩) Q)
        -∗ wp frame (wpE defs 𝒱 c bd) E (.op (.store m r w Finset.univ hx hm) k) Q) := by
  iintro H Hk
  ihave H' := (show owns c m fullShare X ⊢ iprop(∃ g, ⌜m.view.read Val g = X⌝ ∗ m.view.loc c ↦[m.view.set]{fullShare} g) from .rfl) $$ H
  icases H' with ⟨%g, %hg, H⟩
  iapply (wp_store (defs := defs) 𝒱 c bd E (m := m) (r := r) (w := w) (hx := hx) (hm := hm) (k := k) (S := m.view.set) (f := g)
    (by exact (m.view.set_slice_subset r))) $$ H
  iintro H
  iapply Hk
  have hread : m.view.read Val ((m.access r).write Val g w Finset.univ) = r.overlay X w := by
    subst hg
    funext j
    by_cases hj : j ∈ r.set
    · obtain ⟨i, rfl⟩ := r.exists_idx_of_mem hj
      change (m.access r).read Val _ i = r.overlay _ w (r.emb i)
      rw [Rect.overlay_emb, View.read_write_of_mem _ _ (Finset.mem_univ _)]
    · rw [Rect.overlay_of_not_mem _ _ _ hj, View.read_apply, View.read_apply]
      rw [View.write_of_not_mem]
      show m.view.emb j ∉ (m.view.slice r).set
      rw [View.set_slice, Finset.mem_map' m.view.emb]; exact hj
  rw [← hread]
  iapply (owns_intro c m fullShare)
  iexact H

end Cert.Hand

end
-- ==== Proof.Body.lean ====
/- The kernel body at one grid point: from its memrefs owned at any arrays it runs to the end, and leaves the packed
   codes and the scales of the block of rows it read. -/
module

public import proofs.«01_k».proof.Proof.Spec
public import proofs.«01_k».proof.Proof.Rules
public import Idealize.ShloMosaic.Lib.Exec
public import Idealize.ShloMosaic.Lib.Ring
public import Idealize.ShloMosaic.Lib.Tactic

@[expose] public section

set_option maxRecDepth 16384

noncomputable section

namespace Cert.KernelIdeal.Hand

open Idealize.ShloMosaic Idealize.ShloMosaic.TcCoe Idealize.ShloMosaic.Tactic Idealize.ShloMosaic.Rounds
open Idealize.SL Idealize.SL.RA Idealize.SL.BI
open Facts Shapes1.Facts₀ Shapes2.Facts₀
open scoped Idealize.SL.BI
open Idealize.SL.BI.BIBase Idealize.SL.BI.Laws Idealize.SL.ProofMode Idealize.SL.Sem

variable {F : FTy → Type} [FloatOps F] [Facts]

local notation "𝕄" => MT nD τ sig Unit (Elt F) ℕ (UR sig nD τ) ℕ

variable {c : Dev nD} {E : Set ℕ}
variable {arg1 : Memref sig .tc .vmem S256x6912 .bf16} {arg2 : Memref sig .tc .vmem S256x256 .bf16}
  {arg3 : Memref sig .tc .vmem S256x3456 .i8} {arg4 : Memref sig .tc .vmem S1x432x256 .fp8e4m3}
  {arg5 : Memref sig .tc .vmem S1x1x256 .f32} {arg6 : Memref sig .tc .vmem S6912x256 .f32}
  {arg7 : Memref sig .tc .vmem S2x3488x128 .f32} {arg8 : Memref sig .tc .vmem S432x256 .f32}
variable {x0 : Vec F S256x6912 .bf16} {x1 : Vec F S256x256 .bf16} {a3 : Vec F S256x3456 .i8}
  {a4 : Vec F S1x432x256 .fp8e4m3} {a5 : Vec F S1x1x256 .f32} {a6 : Vec F S6912x256 .f32}
  {a7 : Vec F S2x3488x128 .f32} {a8 : Vec F S432x256 .f32}

/-- The body's memrefs owned whole, each at its array of values. -/
def St (c : Dev nD) (arg1 : Memref sig .tc .vmem S256x6912 .bf16) (arg2 : Memref sig .tc .vmem S256x256 .bf16)
    (arg3 : Memref sig .tc .vmem S256x3456 .i8) (arg4 : Memref sig .tc .vmem S1x432x256 .fp8e4m3)
    (arg5 : Memref sig .tc .vmem S1x1x256 .f32) (arg6 : Memref sig .tc .vmem S6912x256 .f32)
    (arg7 : Memref sig .tc .vmem S2x3488x128 .f32) (arg8 : Memref sig .tc .vmem S432x256 .f32)
    (x0 : Vec F S256x6912 .bf16) (x1 : Vec F S256x256 .bf16) (a3 : Vec F S256x3456 .i8)
    (a4 : Vec F S1x432x256 .fp8e4m3) (a5 : Vec F S1x1x256 .f32) (a6 : Vec F S6912x256 .f32)
    (a7 : Vec F S2x3488x128 .f32) (a8 : Vec F S432x256 .f32) : sProp 𝕄 :=
  iprop(owns (c : Thread nD τ) arg1 fullShare x0 ∗ owns (c : Thread nD τ) arg2 fullShare x1
    ∗ owns (c : Thread nD τ) arg3 fullShare a3 ∗ owns (c : Thread nD τ) arg4 fullShare a4
    ∗ owns (c : Thread nD τ) arg5 fullShare a5 ∗ owns (c : Thread nD τ) arg6 fullShare a6
    ∗ owns (c : Thread nD τ) arg7 fullShare a7 ∗ owns (c : Thread nD τ) arg8 fullShare a8)

/-- From the state `P` the program runs to the post `K`. -/
abbrev Runs (c : Dev nD) (E : Set ℕ) (K : PUnit.{1} → sProp 𝕄) (P : sProp 𝕄)
    (p : Prog (TpuEff nD τ sig (Elt F) Λ₀ .tc) PUnit) : Prop :=
  P ⊢ wp frame (wpE (defs₀ (F := F)) Variants.none c none) E p K

/-! ## One load and one store -/

/-- A state `P` from which the memref `m` can be taken, owned at `X`, and be put back at any array `b`, to give `P' b`. -/
abbrev Has (c : Dev nD) {s : Shape} {e : EltTy} (P : sProp 𝕄) (m : Memref sig .tc .vmem s e) (X : Vec F s e)
    (P' : Vec F s e → sProp 𝕄) : Prop :=
  P ⊢ iprop(owns (c : Thread nD τ) m fullShare X ∗ (∀ b, owns (c : Thread nD τ) m fullShare b -∗ P' b))

/-- A load continues at the array read through the rectangle, in the same state. -/
theorem ld {K : PUnit.{1} → sProp 𝕄} {s : Shape} {e : EltTy} {P : sProp 𝕄} {m : Memref sig .tc .vmem s e} {X : Vec F s e}
    {P' : Vec F s e → sProp 𝕄} (hs : Has (F := F) c P m X P') {r : LoadRect s} {hl : m.view.LoadsAt r}
    {k : (r.shape.Idx → Elt F e) → Prog (TpuEff nD τ sig (Elt F) Λ₀ .tc) PUnit}
    (h : Runs (F := F) c E K (P' X) (k (fun j => X (r.idx j)))) :
    Runs (F := F) c E K P (.op (.load m r hl) k) := by
  refine hs.trans ?_
  iintro ⟨H, Hk⟩
  iapply (Cert.Hand.wp_load_owns (defs := defs₀ (F := F)) Variants.none (c : Thread nD τ) none E) $$ H
  iintro H
  iapply h
  iapply Hk
  iexact H

/-- A store continues in the state with the rectangle's part of the array replaced. -/
theorem st {K : PUnit.{1} → sProp 𝕄} {s : Shape} {e : EltTy} {P : sProp 𝕄} {m : Memref sig .tc .vmem s e} {X : Vec F s e}
    {P' : Vec F s e → sProp 𝕄} (hs : Has (F := F) c P m X P') {r : Rect s} {w : r.shape.Idx → Elt F e}
    {hx : (m.access r).Stores Finset.univ} {hm : Finset.univ = Finset.univ ∨ ∀ a, r.stride a = 1}
    {k : PUnit → Prog (TpuEff nD τ sig (Elt F) Λ₀ .tc) PUnit}
    (h : Runs (F := F) c E K (P' (r.overlay X w)) (k ⟨⟩)) :
    Runs (F := F) c E K P (.op (.store m r w Finset.univ hx hm) k) := by
  refine hs.trans ?_
  iintro ⟨H, Hk⟩
  iapply (Cert.Hand.wp_store_owns (defs := defs₀ (F := F)) Variants.none (c : Thread nD τ) none E) $$ H
  iintro H
  iapply h
  iapply Hk
  iexact H

/-! ## Each memref of the state -/

theorem s1 : Has (F := F) c (St (F := F) c arg1 arg2 arg3 arg4 arg5 arg6 arg7 arg8 x0 x1 a3 a4 a5 a6 a7 a8) arg1 x0
    (fun b => St (F := F) c arg1 arg2 arg3 arg4 arg5 arg6 arg7 arg8 b x1 a3 a4 a5 a6 a7 a8) := by
  unfold Has St; beta_reduce; iintro ⟨H1, H2, H3, H4, H5, H6, H7, H8⟩; iframe H1; iintro %b H1; iframe
theorem s2 : Has (F := F) c (St (F := F) c arg1 arg2 arg3 arg4 arg5 arg6 arg7 arg8 x0 x1 a3 a4 a5 a6 a7 a8) arg2 x1
    (fun b => St (F := F) c arg1 arg2 arg3 arg4 arg5 arg6 arg7 arg8 x0 b a3 a4 a5 a6 a7 a8) := by
  unfold Has St; beta_reduce; iintro ⟨H1, H2, H3, H4, H5, H6, H7, H8⟩; iframe H2; iintro %b H2; iframe
theorem s3 : Has (F := F) c (St (F := F) c arg1 arg2 arg3 arg4 arg5 arg6 arg7 arg8 x0 x1 a3 a4 a5 a6 a7 a8) arg3 a3
    (fun b => St (F := F) c arg1 arg2 arg3 arg4 arg5 arg6 arg7 arg8 x0 x1 b a4 a5 a6 a7 a8) := by
  unfold Has St; beta_reduce; iintro ⟨H1, H2, H3, H4, H5, H6, H7, H8⟩; iframe H3; iintro %b H3; iframe
theorem s4 : Has (F := F) c (St (F := F) c arg1 arg2 arg3 arg4 arg5 arg6 arg7 arg8 x0 x1 a3 a4 a5 a6 a7 a8) arg4 a4
    (fun b => St (F := F) c arg1 arg2 arg3 arg4 arg5 arg6 arg7 arg8 x0 x1 a3 b a5 a6 a7 a8) := by
  unfold Has St; beta_reduce; iintro ⟨H1, H2, H3, H4, H5, H6, H7, H8⟩; iframe H4; iintro %b H4; iframe
theorem s5 : Has (F := F) c (St (F := F) c arg1 arg2 arg3 arg4 arg5 arg6 arg7 arg8 x0 x1 a3 a4 a5 a6 a7 a8) arg5 a5
    (fun b => St (F := F) c arg1 arg2 arg3 arg4 arg5 arg6 arg7 arg8 x0 x1 a3 a4 b a6 a7 a8) := by
  unfold Has St; beta_reduce; iintro ⟨H1, H2, H3, H4, H5, H6, H7, H8⟩; iframe H5; iintro %b H5; iframe
theorem s6 : Has (F := F) c (St (F := F) c arg1 arg2 arg3 arg4 arg5 arg6 arg7 arg8 x0 x1 a3 a4 a5 a6 a7 a8) arg6 a6
    (fun b => St (F := F) c arg1 arg2 arg3 arg4 arg5 arg6 arg7 arg8 x0 x1 a3 a4 a5 b a7 a8) := by
  unfold Has St; beta_reduce; iintro ⟨H1, H2, H3, H4, H5, H6, H7, H8⟩; iframe H6; iintro %b H6; iframe
theorem s7 : Has (F := F) c (St (F := F) c arg1 arg2 arg3 arg4 arg5 arg6 arg7 arg8 x0 x1 a3 a4 a5 a6 a7 a8) arg7 a7
    (fun b => St (F := F) c arg1 arg2 arg3 arg4 arg5 arg6 arg7 arg8 x0 x1 a3 a4 a5 a6 b a8) := by
  unfold Has St; beta_reduce; iintro ⟨H1, H2, H3, H4, H5, H6, H7, H8⟩; iframe H7; iintro %b H7; iframe
theorem s8 : Has (F := F) c (St (F := F) c arg1 arg2 arg3 arg4 arg5 arg6 arg7 arg8 x0 x1 a3 a4 a5 a6 a7 a8) arg8 a8
    (fun b => St (F := F) c arg1 arg2 arg3 arg4 arg5 arg6 arg7 arg8 x0 x1 a3 a4 a5 a6 a7 b) := by
  unfold Has St; beta_reduce; iintro ⟨H1, H2, H3, H4, H5, H6, H7, H8⟩; iframe H8; iintro %b H8; iframe

/-! ## The stores of the three phases, by their number -/

/-- Tile `t` is kept, transposed. -/
theorem st6n {K : PUnit.{1} → sProp 𝕄} (t : ℕ) {hx : (arg6.access (r6 t)).Stores Finset.univ}
    {hm : Finset.univ = Finset.univ ∨ ∀ a, (r6 t).stride a = 1}
    {k : PUnit → Prog (TpuEff nD τ sig (Elt F) Λ₀ .tc) PUnit}
    (h : Runs (F := F) c E K (St (F := F) c arg1 arg2 arg3 arg4 arg5 arg6 arg7 arg8 x0 x1 a3 a4 a5 (A6 x0 x1 a6 (t + 1)) a7 a8) (k ⟨⟩)) :
    Runs (F := F) c E K (St (F := F) c arg1 arg2 arg3 arg4 arg5 arg6 arg7 arg8 x0 x1 a3 a4 a5 (A6 x0 x1 a6 t) a7 a8)
      (.op (.store arg6 (r6 t) (shapeCast S256x256 (xt x0 x1 t) shapeCasts_S256x256_S256x256) Finset.univ hx hm) k) :=
  st (F := F) s6 h

/-- Store `j` of the maxima of tile `t`. -/
theorem st7n {K : PUnit.{1} → sProp 𝕄} (t j : ℕ) {hx : (arg7.access (r7 (32 * t + j))).Stores Finset.univ}
    {hm : Finset.univ = Finset.univ ∨ ∀ a, (r7 (32 * t + j)).stride a = 1}
    {k : PUnit → Prog (TpuEff nD τ sig (Elt F) Λ₀ .tc) PUnit}
    (h : Runs (F := F) c E K (St (F := F) c arg1 arg2 arg3 arg4 arg5 arg6 arg7 arg8 x0 x1 a3 a4 a5 a6 (A7 x0 x1 a7 (32 * t + (j + 1))) a8) (k ⟨⟩)) :
    Runs (F := F) c E K (St (F := F) c arg1 arg2 arg3 arg4 arg5 arg6 arg7 arg8 x0 x1 a3 a4 a5 a6 (A7 x0 x1 a7 (32 * t + j)) a8)
      (.op (.store arg7 (r7 (32 * t + j)) (pay7 x0 x1 (32 * t + j)) Finset.univ hx hm) k) :=
  st (F := F) s7 h

/-- The reciprocals of half `p`. -/
theorem st8n {K : PUnit.{1} → sProp 𝕄} (p : ℕ) {hx : (arg8.access (r8 p)).Stores Finset.univ}
    {hm : Finset.univ = Finset.univ ∨ ∀ a, (r8 p).stride a = 1}
    {k : PUnit → Prog (TpuEff nD τ sig (Elt F) Λ₀ .tc) PUnit}
    (h : Runs (F := F) c E K (St (F := F) c arg1 arg2 arg3 arg4 arg5 arg6 arg7 arg8 x0 x1 a3 a4 a5 a6 a7 (A8 a7 a8 (p + 1))) (k ⟨⟩)) :
    Runs (F := F) c E K (St (F := F) c arg1 arg2 arg3 arg4 arg5 arg6 arg7 arg8 x0 x1 a3 a4 a5 a6 a7 (A8 a7 a8 p))
      (.op (.store arg8 (r8 p) (shapeCast S432x128 (recip a7 p) shapeCasts_S432x128_S432x128) Finset.univ hx hm) k) :=
  st (F := F) s8 h

/-- The rows' scales of half `p`. -/
theorem st5n {K : PUnit.{1} → sProp 𝕄} (p : ℕ) {hx : (arg5.access (r5 p)).Stores Finset.univ}
    {hm : Finset.univ = Finset.univ ∨ ∀ a, (r5 p).stride a = 1}
    {k : PUnit → Prog (TpuEff nD τ sig (Elt F) Λ₀ .tc) PUnit}
    (h : Runs (F := F) c E K (St (F := F) c arg1 arg2 arg3 arg4 arg5 arg6 arg7 arg8 x0 x1 a3 a4 (A5 a7 a5 (p + 1)) a6 a7 a8) (k ⟨⟩)) :
    Runs (F := F) c E K (St (F := F) c arg1 arg2 arg3 arg4 arg5 arg6 arg7 arg8 x0 x1 a3 a4 (A5 a7 a5 p) a6 a7 a8)
      (.op (.store arg5 (r5 p) (shapeCast S1x1x128 (sG a7 p) shapeCasts_S1x128_S1x1x128) Finset.univ hx hm) k) :=
  st (F := F) s5 h

/-- The sub-blocks' scales of half `p`. -/
theorem st4n {K : PUnit.{1} → sProp 𝕄} (p : ℕ) {hx : (arg4.access (r4 p)).Stores Finset.univ}
    {hm : Finset.univ = Finset.univ ∨ ∀ a, (r4 p).stride a = 1}
    {k : PUnit → Prog (TpuEff nD τ sig (Elt F) Λ₀ .tc) PUnit}
    (h : Runs (F := F) c E K (St (F := F) c arg1 arg2 arg3 arg4 arg5 arg6 arg7 arg8 x0 x1 a3 (A4 a7 a4 (p + 1)) a5 a6 a7 a8) (k ⟨⟩)) :
    Runs (F := F) c E K (St (F := F) c arg1 arg2 arg3 arg4 arg5 arg6 arg7 arg8 x0 x1 a3 (A4 a7 a4 p) a5 a6 a7 a8)
      (.op (.store arg4 (r4 p) (shapeCast S1x432x128 (sB a7 p) shapeCasts_S432x128_S1x432x128) Finset.univ hx hm) k) :=
  st (F := F) s4 h

/-- The codes of tile `t`. -/
theorem st3n {K : PUnit.{1} → sProp 𝕄} (t : ℕ) {hx : (arg3.access (r3 t)).Stores Finset.univ}
    {hm : Finset.univ = Finset.univ ∨ ∀ a, (r3 t).stride a = 1}
    {k : PUnit → Prog (TpuEff nD τ sig (Elt F) Λ₀ .tc) PUnit}
    (h : Runs (F := F) c E K (St (F := F) c arg1 arg2 arg3 arg4 arg5 arg6 arg7 arg8 x0 x1 (A3 a6 a8 a3 (t + 1)) a4 a5 a6 a7 a8) (k ⟨⟩)) :
    Runs (F := F) c E K (St (F := F) c arg1 arg2 arg3 arg4 arg5 arg6 arg7 arg8 x0 x1 (A3 a6 a8 a3 t) a4 a5 a6 a7 a8)
      (.op (.store arg3 (r3 t) (pay3 a6 a8 t) Finset.univ hx hm) k) :=
  st (F := F) s3 h

/-- The 32 stores of tile `t` are done: the next is the first of tile `t + 1`. -/
theorem tile_end {K : PUnit.{1} → sProp 𝕄} (t : ℕ) {p : Prog (TpuEff nD τ sig (Elt F) Λ₀ .tc) PUnit}
    (h : Runs (F := F) c E K (St (F := F) c arg1 arg2 arg3 arg4 arg5 arg6 arg7 arg8 x0 x1 a3 a4 a5 a6 (A7 x0 x1 a7 (32 * (t + 1) + 0)) a8) p) :
    Runs (F := F) c E K (St (F := F) c arg1 arg2 arg3 arg4 arg5 arg6 arg7 arg8 x0 x1 a3 a4 a5 a6 (A7 x0 x1 a7 (32 * t + 32)) a8) p := h

/-- The first phase is done. -/
theorem phase1_end {K : PUnit.{1} → sProp 𝕄} {p : Prog (TpuEff nD τ sig (Elt F) Λ₀ .tc) PUnit}
    (h : Runs (F := F) c E K (St (F := F) c arg1 arg2 arg3 arg4 arg5 arg6 arg7 arg8 x0 x1 a3 a4 a5 (T6 x0 x1 a6) (M7 x0 x1 a7) a8) p) :
    Runs (F := F) c E K (St (F := F) c arg1 arg2 arg3 arg4 arg5 arg6 arg7 arg8 x0 x1 a3 a4 a5 (A6 x0 x1 a6 27) (A7 x0 x1 a7 (32 * 27 + 0)) a8) p := h

/-- The second phase is done. -/
theorem phase2_end {K : PUnit.{1} → sProp 𝕄} {p : Prog (TpuEff nD τ sig (Elt F) Λ₀ .tc) PUnit}
    (h : Runs (F := F) c E K (St (F := F) c arg1 arg2 arg3 arg4 arg5 arg6 arg7 arg8 x0 x1 (A3 a6 (R8 a7 a8) a3 0) a4 a5 a6 a7 (R8 a7 a8)) p) :
    Runs (F := F) c E K (St (F := F) c arg1 arg2 arg3 arg4 arg5 arg6 arg7 arg8 x0 x1 a3 a4 a5 a6 a7 (A8 a7 a8 2)) p := h

variable (i : grid0.Coords) (harg1 : arg1.IsWhole) (harg2 : arg2.IsWhole) (harg3 : arg3.IsWhole) (harg4 : arg4.IsWhole)
  (harg5 : arg5.IsWhole) (harg6 : arg6.IsWhole) (harg7 : arg7.IsWhole) (harg8 : arg8.IsWhole)

set_option maxHeartbeats 4000000 in
/-- The body runs from any contents of its outputs and scratch to the state that the specification names. -/
theorem body_runs {K : PUnit.{1} → sProp 𝕄}
    (h : St (F := F) c arg1 arg2 arg3 arg4 arg5 arg6 arg7 arg8 x0 x1 (A3 (T6 x0 x1 a6) (R8 (M7 x0 x1 a7) a8) a3 27) (A4 (M7 x0 x1 a7) a4 2) (A5 (M7 x0 x1 a7) a5 2) (T6 x0 x1 a6) (M7 x0 x1 a7) (R8 (M7 x0 x1 a7) a8) ⊢ K ⟨⟩) :
    Runs (F := F) c E K (St (F := F) c arg1 arg2 arg3 arg4 arg5 arg6 arg7 arg8 x0 x1 a3 a4 a5 a6 a7 a8)
      (cc0__body i arg1 harg1 arg2 harg2 arg3 harg3 arg4 harg4 arg5 harg5 arg6 harg6 arg7 harg7 arg8 harg8) := by
  refine ld (F := F) s2 ?_
  change Runs (F := F) c E K (St (F := F) c arg1 arg2 arg3 arg4 arg5 arg6 arg7 arg8 x0 x1 a3 a4 a5 (A6 x0 x1 a6 0) (A7 x0 x1 a7 (32 * 0 + 0)) a8) _
  iterate 27
    refine ld (F := F) s1 ?_
    refine ld (F := F) s6 ?_
    refine st6n (F := F) _ ?_
    iterate 32
      refine ld (F := F) s7 ?_
      refine st7n (F := F) _ _ ?_
    refine tile_end (F := F) _ ?_
  refine phase1_end (F := F) ?_
  change Runs (F := F) c E K (St (F := F) c arg1 arg2 arg3 arg4 arg5 arg6 arg7 arg8 x0 x1 a3 (A4 (M7 x0 x1 a7) a4 0) (A5 (M7 x0 x1 a7) a5 0) (T6 x0 x1 a6) (M7 x0 x1 a7) (A8 (M7 x0 x1 a7) a8 0)) _
  iterate 2
    iterate 8 refine ld (F := F) s7 ?_
    refine ld (F := F) s8 ?_
    refine st8n (F := F) _ ?_
    refine ld (F := F) s5 ?_
    refine st5n (F := F) _ ?_
    refine ld (F := F) s4 ?_
    refine st4n (F := F) _ ?_
  refine phase2_end (F := F) ?_
  iterate 27
    iterate 16
      refine ld (F := F) s6 ?_
      refine ld (F := F) s8 ?_
    refine ld (F := F) s3 ?_
    refine st3n (F := F) _ ?_
  show _ ⊢ iprop(|={E}=> K ⟨⟩)
  exact h.trans (fupd_intro)

end Cert.KernelIdeal.Hand

end
-- ==== Proof.Fill.lean ====
/- What the kernel's buffers hold once they are filled, each written as one function of an index, whatever they held
   before. -/
module

public import proofs.«01_k».proof.Proof.Spec
public import Idealize.ShloMosaic.Lib.Pointwise

@[expose] public section

set_option maxRecDepth 16384

noncomputable section

namespace Cert.KernelIdeal.Hand

open Idealize.ShloMosaic Idealize.ShloMosaic.TcCoe Idealize.SL.Sem
open Facts Shapes1.Facts₀ Shapes2.Facts₀

variable {F : FTy → Type} [FloatOps F] [Facts]

/-- An array filled by `N` stores, each of which writes its part of one array `G`, holds `G` wherever a store writes. -/
theorem overlay_fill {s : Shape} {α : Type} (r : ℕ → Rect s) (w : ∀ n, (r n).shape.Idx → α) (A : ℕ → s.Idx → α)
    (hA : ∀ n, A (n + 1) = (r n).overlay (A n) (w n)) (G : s.Idx → α) (N : ℕ)
    (hG : ∀ n < N, ∀ i, w n i = G ((r n).emb i)) (j : s.Idx) (hj : ∃ n < N, ∃ i, (r n).emb i = j) : A N j = G j := by
  induction N with
  | zero => obtain ⟨n, h, _⟩ := hj; exact absurd h (Nat.not_lt_zero n)
  | succ N ih =>
    rw [hA]
    by_cases hm : j ∈ (r N).set
    · obtain ⟨i, rfl⟩ := (r N).exists_idx_of_mem hm
      exact (Rect.overlay_emb _ _ _ i).trans (hG N (Nat.lt_succ_self N) i)
    · rw [Rect.overlay_of_not_mem _ _ _ hm]
      obtain ⟨n, hn, i, hi⟩ := hj
      refine ih (fun n h => hG n (Nat.lt_succ_of_lt h)) ⟨n, ?_, i, hi⟩
      rcases Nat.lt_succ_iff_lt_or_eq.mp hn with h | rfl
      · exact h
      · exact absurd (hi ▸ (r n).idx_mem i) hm

/-- A family of matrices at equal numbers and equal coordinates. -/
theorem at2 {n0 n1 : ℕ} {α : Type} (f : ℕ → (⟨2, ![n0, n1]⟩ : Shape).Idx → α) {t t' : ℕ} {a a' : Fin n0} {b b' : Fin n1}
    (ht : t = t') (ha : a.val = a'.val) (hb : b.val = b'.val) : f t (ix2 a b) = f t' (ix2 a' b') := by
  obtain rfl := ht; obtain rfl := Fin.ext ha; obtain rfl := Fin.ext hb; rfl

/-- Two indices of rank 2 with equal coordinates. -/
theorem ext2 {n0 n1 : ℕ} {i j : (⟨2, ![n0, n1]⟩ : Shape).Idx} (h0 : (i 0).val = (j 0).val) (h1 : (i 1).val = (j 1).val) : i = j := by
  funext a; match a with | ⟨0, _⟩ => exact Fin.ext h0 | ⟨1, _⟩ => exact Fin.ext h1

/-- Two indices of rank 3 with equal coordinates. -/
theorem ext3 {n0 n1 n2 : ℕ} {i j : (⟨3, ![n0, n1, n2]⟩ : Shape).Idx} (h0 : (i 0).val = (j 0).val) (h1 : (i 1).val = (j 1).val)
    (h2 : (i 2).val = (j 2).val) : i = j := by
  funext a; match a with | ⟨0, _⟩ => exact Fin.ext h0 | ⟨1, _⟩ => exact Fin.ext h1 | ⟨2, _⟩ => exact Fin.ext h2

variable (x0 : Vec F S256x6912 .bf16) (x1 : Vec F S256x256 .bf16)

/-- The transposed rows: row `j 0` lies in tile `j 0 / 256`. -/
def G6 : Vec F S6912x256 .f32 := fun j =>
  xt x0 x1 ((j 0).val / 256) (ix2 ⟨(j 0).val % 256, Nat.mod_lt _ (by decide)⟩ (j 1))

theorem T6_eq (a6 : Vec F S6912x256 .f32) : T6 x0 x1 a6 = G6 x0 x1 := by
  funext j
  refine overlay_fill r6 (fun t => shapeCast S256x256 (xt x0 x1 t) shapeCasts_S256x256_S256x256) (A6 x0 x1 a6) (fun _ => rfl) (G6 x0 x1) 27 ?_ j ?_
  · intro n hn i
    idx_vars i
    pointwise
    refine at2 (xt x0 x1) ?_ ?_ ?_
    · show n = (256 * (n % 27) + 1 * i0.val) / 256; omega
    · show i0.val = (256 * (n % 27) + 1 * i0.val) % 256; omega
    · show i1.val = 0 + 1 * i1.val; omega
  · idx_vars j
    refine ⟨j0.val / 256, by omega, ix2 ⟨j0.val % 256, by omega⟩ j1, ext2 ?_ ?_⟩
    · show 256 * (j0.val / 256 % 27) + 1 * (j0.val % 256) = j0.val; omega
    · show 0 + 1 * j1.val = j1.val; omega

/-- For sub-block `b`, the larger of its rows `i` and `i + 8`, for `i < 8`. -/
def mx (b : ℕ) : FVec F S8x256 .f32 := pairMax (absf (xt x0 x1 (b / 16))) b

/-- The maxima of eight rows: row `436 i + b` of half `p` holds, for sub-block `b`, the larger of its rows `i` and
    `i + 8`. The rows from 432 of each pitch of 436 are never read. -/
def G7 : Vec F S2x3488x128 .f32 := fun j =>
  mx x0 x1 ((j 1).val % 436)
    (ix2 ⟨(j 1).val / 436, by have : (j 1).val < 3488 := (j 1).isLt; omega⟩
      ⟨128 * (j 0).val + (j 2).val, by have : (j 0).val < 2 := (j 0).isLt; have : (j 2).val < 128 := (j 2).isLt; omega⟩)

theorem M7_eq (a7 : Vec F S2x3488x128 .f32) (j : S2x3488x128.Idx) (hj : (j 1).val % 436 < 432) : M7 x0 x1 a7 j = G7 x0 x1 j := by
  refine overlay_fill r7 (pay7 x0 x1) (A7 x0 x1 a7) (fun _ => rfl) (G7 x0 x1) 864 ?_ j ?_
  · intro n hn i
    idx_vars i
    have h0 : i0.val = 0 := by omega
    have e : pay7 x0 x1 n = shapeCast S1x8x128 (extractStridedSlice S8x128 ![0, 128 * (n % 2)] (mx x0 x1 (n / 2)) (slices128 n)) shapeCasts_S8x128_S1x8x128 := by
      unfold pay7 mx; rw [show n / 2 / 16 = n / 32 by omega]
    rw [e]
    pointwise
    refine at2 (mx x0 x1) ?_ ?_ ?_
    · show n / 2 = (n / 2 % 432 + 436 * i1.val) % 436; omega
    · show i1.val = (n / 2 % 432 + 436 * i1.val) / 436; omega
    · show 128 * (n % 2) + i2.val = 128 * (n % 2 + 1 * i0.val) + (0 + 1 * i2.val); omega
  · idx_vars j
    replace hj : j1.val % 436 < 432 := hj
    refine ⟨2 * (j1.val % 436) + j0.val, by omega, ix3 0 ⟨j1.val / 436, by omega⟩ j2, ext3 ?_ ?_ ?_⟩
    · show (2 * (j1.val % 436) + j0.val) % 2 + 1 * 0 = j0.val; omega
    · show (2 * (j1.val % 436) + j0.val) / 2 % 432 + 436 * (j1.val / 436) = j1.val; omega
    · show 0 + 1 * j2.val = j2.val; omega

/-- Only the rows below 432 of each pitch are read, so the scales come from the maxima alone. -/
theorem grp_M7 (a7 : Vec F S2x3488x128 .f32) (p i : ℕ) : grp (M7 x0 x1 a7) p i = grp (G7 x0 x1) p i := by
  unfold grp
  congr 1
  funext j
  idx_vars j
  refine M7_eq x0 x1 a7 _ ?_
  show (436 * (i % 8) + 1 * j1.val) % 436 < 432
  omega

theorem blkMax_M7 (a7 : Vec F S2x3488x128 .f32) (p : ℕ) : blkMax (M7 x0 x1 a7) p = blkMax (G7 x0 x1) p := by
  unfold blkMax; simp only [grp_M7]
theorem rowMax_M7 (a7 : Vec F S2x3488x128 .f32) (p : ℕ) : rowMax (M7 x0 x1 a7) p = rowMax (G7 x0 x1) p := by
  unfold rowMax; rw [blkMax_M7]
theorem sG_M7 (a7 : Vec F S2x3488x128 .f32) (p : ℕ) : sG (M7 x0 x1 a7) p = sG (G7 x0 x1) p := by
  unfold sG; rw [rowMax_M7]
theorem sB_M7 (a7 : Vec F S2x3488x128 .f32) (p : ℕ) : sB (M7 x0 x1 a7) p = sB (G7 x0 x1) p := by
  unfold sB; rw [blkMax_M7, sG_M7]
theorem recip_M7 (a7 : Vec F S2x3488x128 .f32) (p : ℕ) : recip (M7 x0 x1 a7) p = recip (G7 x0 x1) p := by
  unfold recip eff0; rw [sB_M7, sG_M7]

/-! ## The reciprocals, the two outputs of scales and the output of codes -/

/-- The reciprocals by sub-block and row: row `j 1` lies in half `j 1 / 128`. -/
def G8 : Vec F S432x256 .f32 := fun j => recip (G7 x0 x1) ((j 1).val / 128) (ix2 (j 0) ⟨(j 1).val % 128, Nat.mod_lt _ (by decide)⟩)

/-- The sub-blocks' scales, -/
def O4 : Vec F S1x432x256 .fp8e4m3 := fun j => sB (G7 x0 x1) ((j 2).val / 128) (ix2 (j 1) ⟨(j 2).val % 128, Nat.mod_lt _ (by decide)⟩)

/-- the rows' scales, -/
def O5 : Vec F S1x1x256 .f32 := fun j => sG (G7 x0 x1) ((j 2).val / 128) (ix2 0 ⟨(j 2).val % 128, Nat.mod_lt _ (by decide)⟩)

/-- and the packed codes: byte `j 1` of a row lies in tile `j 1 / 128`. -/
def O3 : Vec F S256x3456 .i8 := fun j =>
  pay3 (G6 x0 x1) (G8 x0 x1) ((j 1).val / 128) (ix2 (j 0) ⟨(j 1).val % 128, Nat.mod_lt _ (by decide)⟩)

theorem R8_eq (a7 : Vec F S2x3488x128 .f32) (a8 : Vec F S432x256 .f32) : R8 (M7 x0 x1 a7) a8 = G8 x0 x1 := by
  funext j
  refine overlay_fill r8 (fun p => shapeCast S432x128 (recip (M7 x0 x1 a7) p) shapeCasts_S432x128_S432x128) (A8 (M7 x0 x1 a7) a8) (fun _ => rfl) (G8 x0 x1) 2 ?_ j ?_
  · intro n hn i
    idx_vars i
    pointwise [recip_M7]
    refine at2 (recip (G7 x0 x1)) ?_ ?_ ?_
    · show n = (128 * (n % 2) + 1 * i1.val) / 128; omega
    · show i0.val = 0 + 1 * i0.val; omega
    · show i1.val = (128 * (n % 2) + 1 * i1.val) % 128; omega
  · idx_vars j
    refine ⟨j1.val / 128, by omega, ix2 j0 ⟨j1.val % 128, by omega⟩, ext2 ?_ ?_⟩
    · show 0 + 1 * j0.val = j0.val; omega
    · show 128 * (j1.val / 128 % 2) + 1 * (j1.val % 128) = j1.val; omega

theorem A4_eq (a7 : Vec F S2x3488x128 .f32) (a4 : Vec F S1x432x256 .fp8e4m3) : A4 (M7 x0 x1 a7) a4 2 = O4 x0 x1 := by
  funext j
  refine overlay_fill r4 (fun p => shapeCast S1x432x128 (sB (M7 x0 x1 a7) p) shapeCasts_S432x128_S1x432x128) (A4 (M7 x0 x1 a7) a4) (fun _ => rfl) (O4 x0 x1) 2 ?_ j ?_
  · intro n hn i
    idx_vars i
    pointwise [sB_M7]
    refine at2 (sB (G7 x0 x1)) ?_ ?_ ?_
    · show n = (128 * (n % 2) + 1 * i2.val) / 128; omega
    · show i1.val = 0 + 1 * i1.val; omega
    · show i2.val = (128 * (n % 2) + 1 * i2.val) % 128; omega
  · idx_vars j
    refine ⟨j2.val / 128, by omega, ix3 j0 j1 ⟨j2.val % 128, by omega⟩, ext3 ?_ ?_ ?_⟩
    · show 0 + 1 * j0.val = j0.val; omega
    · show 0 + 1 * j1.val = j1.val; omega
    · show 128 * (j2.val / 128 % 2) + 1 * (j2.val % 128) = j2.val; omega

theorem A5_eq (a7 : Vec F S2x3488x128 .f32) (a5 : Vec F S1x1x256 .f32) : A5 (M7 x0 x1 a7) a5 2 = O5 x0 x1 := by
  funext j
  refine overlay_fill r5 (fun p => shapeCast S1x1x128 (sG (M7 x0 x1 a7) p) shapeCasts_S1x128_S1x1x128) (A5 (M7 x0 x1 a7) a5) (fun _ => rfl) (O5 x0 x1) 2 ?_ j ?_
  · intro n hn i
    idx_vars i
    pointwise [sG_M7]
    refine at2 (sG (G7 x0 x1)) ?_ ?_ ?_
    · show n = (128 * (n % 2) + 1 * i2.val) / 128; omega
    · first | rfl | (show i1.val = 0; omega)
    · show i2.val = (128 * (n % 2) + 1 * i2.val) % 128; omega
  · idx_vars j
    refine ⟨j2.val / 128, by omega, ix3 j0 j1 ⟨j2.val % 128, by omega⟩, ext3 ?_ ?_ ?_⟩
    · show 0 + 1 * j0.val = j0.val; omega
    · show 0 + 1 * j1.val = j1.val; omega
    · show 128 * (j2.val / 128 % 2) + 1 * (j2.val % 128) = j2.val; omega

theorem A3_eq (a6 : Vec F S6912x256 .f32) (a7 : Vec F S2x3488x128 .f32) (a8 : Vec F S432x256 .f32) (a3 : Vec F S256x3456 .i8) :
    A3 (T6 x0 x1 a6) (R8 (M7 x0 x1 a7) a8) a3 27 = O3 x0 x1 := by
  rw [T6_eq, R8_eq]
  funext j
  refine overlay_fill r3 (pay3 (G6 x0 x1) (G8 x0 x1)) (A3 (G6 x0 x1) (G8 x0 x1) a3) (fun _ => rfl) (O3 x0 x1) 27 ?_ j ?_
  · intro n hn i
    idx_vars i
    refine at2 (pay3 (G6 x0 x1) (G8 x0 x1)) ?_ ?_ ?_
    · show n = (128 * (n % 27) + 1 * i1.val) / 128; omega
    · show i0.val = 0 + 1 * i0.val; omega
    · show i1.val = (128 * (n % 27) + 1 * i1.val) % 128; omega
  · idx_vars j
    refine ⟨j1.val / 128, by omega, ix2 j0 ⟨j1.val % 128, by omega⟩, ext2 ?_ ?_⟩
    · show 0 + 1 * j0.val = j0.val; omega
    · show 128 * (j1.val / 128 % 27) + 1 * (j1.val % 128) = j1.val; omega

end Cert.KernelIdeal.Hand

end
-- ==== Proof.Run.lean ====
/- The run of the program: the body at every grid point leaves the block's codes and scales in its output windows, so
   the arrays that the call returns are these blocks. -/
module

public import proofs.«01_k».proof.Proof.Gen.KernelIdeal.Frame
public import proofs.«01_k».proof.Proof.Body
public import proofs.«01_k».proof.Proof.Fill
public import Idealize.ShloMosaic.Lib.Claim
public import Idealize.ShloMosaic.Lib.Pipeline.FrameTail

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The body, from any contents of its outputs and scratch, leaves the outputs at the block's codes and scales. -/
theorem body_triple (c : Dev nD) (i : grid0.Coords)
    {arg1 : Memref sig .tc .vmem S256x6912 .bf16} (harg1 : arg1.IsWhole) {arg2 : Memref sig .tc .vmem S256x256 .bf16} (harg2 : arg2.IsWhole)
    {arg3 : Memref sig .tc .vmem S256x3456 .i8} (harg3 : arg3.IsWhole) {arg4 : Memref sig .tc .vmem S1x432x256 .fp8e4m3} (harg4 : arg4.IsWhole)
    {arg5 : Memref sig .tc .vmem S1x1x256 .f32} (harg5 : arg5.IsWhole) {arg6 : Memref sig .tc .vmem S6912x256 .f32} (harg6 : arg6.IsWhole)
    {arg7 : Memref sig .tc .vmem S2x3488x128 .f32} (harg7 : arg7.IsWhole) {arg8 : Memref sig .tc .vmem S432x256 .f32} (harg8 : arg8.IsWhole)
    (x0 : Vec F S256x6912 .bf16) (x1 : Vec F S256x256 .bf16) (E : Set ℕ) (K : PUnit → sProp 𝕄) :
    iprop((∃ a3 a4 a5 a6 a7 a8, St (F := F) c arg1 arg2 arg3 arg4 arg5 arg6 arg7 arg8 x0 x1 a3 a4 a5 a6 a7 a8)
        ∗ ((∃ a6 a7 a8, St (F := F) c arg1 arg2 arg3 arg4 arg5 arg6 arg7 arg8 x0 x1 (O3 x0 x1) (O4 x0 x1) (O5 x0 x1) a6 a7 a8) -∗ K ⟨⟩))
      ⊢ wp frame (wpE (defs₀ (F := F)) Variants.none c none) E
          (cc0__body i arg1 harg1 arg2 harg2 arg3 harg3 arg4 harg4 arg5 harg5 arg6 harg6 arg7 harg7 arg8 harg8) K := by
  have hrun : iprop(∃ a3 a4 a5 a6 a7 a8, St (F := F) c arg1 arg2 arg3 arg4 arg5 arg6 arg7 arg8 x0 x1 a3 a4 a5 a6 a7 a8)
      ⊢ wp frame (wpE (defs₀ (F := F)) Variants.none c none) E
          (cc0__body i arg1 harg1 arg2 harg2 arg3 harg3 arg4 harg4 arg5 harg5 arg6 harg6 arg7 harg7 arg8 harg8)
          (fun _ => iprop(∃ a6 a7 a8, St (F := F) c arg1 arg2 arg3 arg4 arg5 arg6 arg7 arg8 x0 x1 (O3 x0 x1) (O4 x0 x1) (O5 x0 x1) a6 a7 a8)) := by
    iintro ⟨%a3, %a4, %a5, %a6, %a7, %a8, H⟩
    iapply (show St (F := F) c arg1 arg2 arg3 arg4 arg5 arg6 arg7 arg8 x0 x1 a3 a4 a5 a6 a7 a8 ⊢ _ from
      body_runs (F := F) i harg1 harg2 harg3 harg4 harg5 harg6 harg7 harg8 (by
        rw [A3_eq, A4_eq, A5_eq]; iintro H; iexists _, _, _; iexact H))
    iexact H
  refine (sep_mono_left hrun).trans ((wp_frame_r _ _ _).trans (wp_mono _ _ _ fun a => ?_))
  iintro ⟨H, Hk⟩
  iapply Hk
  iexact H

variable (m : (ℓ : Loc nD τ sig) → Buf (Elt F) ℓ) (ρ : Dev nD → PrngReg)

/-! ## The call's data: what each window's buffer holds after the body at each point -/

abbrev ms0_0 (t : Fin cfg0.N) : Memref sig .tc .vmem S256x6912 .bf16 := win0_0.stage (cfg0.slots t 0)
abbrev ms0_1 (t : Fin cfg0.N) : Memref sig .tc .vmem S256x256 .bf16 := win0_1.stage (cfg0.slots t 1)
abbrev ms0_2 (t : Fin cfg0.N) : Memref sig .tc .vmem S256x3456 .i8 := win0_2.stage (cfg0.slots t 2)
abbrev ms0_3 (t : Fin cfg0.N) : Memref sig .tc .vmem S1x432x256 .fp8e4m3 := win0_3.stage (cfg0.slots t 3)
abbrev ms0_4 (t : Fin cfg0.N) : Memref sig .tc .vmem S1x1x256 .f32 := win0_4.stage (cfg0.slots t 4)
abbrev scM0_0 : Memref sig .tc .vmem S6912x256 .f32 := Memref.whole cc0_scratch0
abbrev scM0_1 : Memref sig .tc .vmem S2x3488x128 .f32 := Memref.whole cc0_scratch1
abbrev scM0_2 : Memref sig .tc .vmem S432x256 .f32 := Memref.whole cc0_scratch2

/-- The body's scratch as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- After the body each input's buffer still holds its block, and each output's the block's codes or scales. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => O3 (F := F) (iblk m c 0 t) (iblk m c 1 t)
    | ⟨3, _⟩ => O4 (F := F) (iblk m c 0 t) (iblk m c 1 t)
    | ⟨4, _⟩ => O5 (F := F) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = O3 (F := F) (iblk m c 0 t) (iblk m c 1 t) := by dsimp only [dats]
theorem after0_3 (c : Dev nD) (t : Fin cfg0.N) : (dats m 0 c).after 3 t = O4 (F := F) (iblk m c 0 t) (iblk m c 1 t) := by dsimp only [dats]
theorem after0_4 (c : Dev nD) (t : Fin cfg0.N) : (dats m 0 c).after 4 t = O5 (F := F) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨⟨%e0, HS0⟩, ⟨%e1, HS1⟩, ⟨%e2, HS2⟩⟩, Hg⟩, Ho, ⟨%d0, H0⟩, ⟨%d1, H1⟩, ⟨%d2, H2⟩, ⟨%d3, H3⟩, ⟨%d4, H4⟩⟩
  iapply (body_triple c (grid0.coords t) _ _ _ _ _ _ _ _ (iblk m c 0 t) (iblk m c 1 t) Set.univ _)
  unfold St
  isplitl [H0 H1 H2 H3 H4 HS0 HS1 HS2]
  · iexists _, _, _, _, _, _
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iexact HS2
  iintro ⟨%a6, %a7, %a8, H0, H1, H2, H3, H4, HS0, HS1, HS2⟩
  isplitl [HS0 HS1 HS2 Hg]
  · isplitl [HS0 HS1 HS2]
    · isplitl [HS0]
      · iexists _; iexact HS0
      isplitl [HS1]
      · iexists _; iexact HS1
      iexists _; iexact HS2
    iexact Hg
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every execution ends, the arrays of the call at what the data say, the later host lines applied, and every
    semaphore at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arrays after the run. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- Every execution ends without fault, the argument unchanged and every semaphore at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.KernelFrame.lean ====
/- The kernel at machine floats is the same program as the one read over the extended reals, so that one's run, which
   holds for every meaning of the floats, is its run too. -/
module

public import proofs.«01_k».proof.Proof.Gen.Kernel
public import proofs.«01_k».proof.Proof.Run

@[expose] public section

set_option maxRecDepth 16384

noncomputable section

namespace Cert.Kernel.Hand

open Cert.Kernel.Gen Cert.KernelIdeal.Gen
open Idealize.ShloMosaic Idealize.ShloMosaic.TcCoe Idealize.SL.Sem

variable {F : FTy → Type} [FloatOps F]

/-- The two have the same kernel function, -/
theorem body_eq : @Cert.Kernel.cc0__body F _ _ = @Cert.KernelIdeal.cc0__body F _ _ := rfl

/-- the same table of kernel functions -/
theorem defs₀_eq : (Cert.Kernel.defs₀ : Defs Cert.KernelIdeal.nD Cert.KernelIdeal.τ Cert.KernelIdeal.sig (Elt F) Cert.KernelIdeal.Λ₀)
    = Cert.KernelIdeal.defs₀ := by
  refine congrArg Defs.onTc (funext fun l => funext fun a => ?_)
  match l, a with
  | 0, (t, s) => rfl

/-- and the same main program. -/
theorem main_eq : Cert.Kernel.main (F := F) = Cert.KernelIdeal.main (F := F) := rfl

variable (m : (ℓ : Loc Cert.Kernel.nD Cert.Kernel.τ Cert.Kernel.sig) → Buf (Elt F) ℓ) (ρ : Dev Cert.Kernel.nD → PrngReg)

/-- Every execution of the kernel ends without fault, the argument unchanged and every semaphore at zero. -/
theorem quiescent : θ_run (Cert.Kernel.defs (F := F)) (onTc (τ := Cert.Kernel.τ) (Cert.Kernel.main (F := F))) ⟨m, fun _ => 0, ρ⟩ (fun r =>
      (∀ c : Dev Cert.Kernel.nD, r.2.mem ((c.tc : Thread Cert.Kernel.nD Cert.Kernel.τ).loc Cert.Kernel.main_arg0)
        = m ((c.tc : Thread Cert.Kernel.nD Cert.Kernel.τ).loc Cert.Kernel.main_arg0)) ∧ r.2.sem = fun _ => 0) :=
  (congrArg (fun d => θ_run (Pipeline.defs Cert.KernelIdeal.pcfgs d) (onTc (τ := Cert.KernelIdeal.τ) (Cert.KernelIdeal.main (F := F)))
    ⟨m, fun _ => 0, ρ⟩ (fun r => (∀ c : Dev Cert.KernelIdeal.nD,
      r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0))
    defs₀_eq).mpr (Cert.KernelIdeal.Hand.quiescent m ρ)

end Cert.Kernel.Hand

end
-- ==== Proof.Nibble.lean ====
/- Eight codes of four bits in one word: their sum as shifted, the word with the sign bits of zero codes dropped, and its
   bytes. -/
module

public import Idealize.ShloMosaic.PureOps
public import Idealize.ShloMosaic.Lib.WordSum

@[expose] public section

namespace Cert.Nibble

open Idealize.ShloMosaic

/-- A code of four bits, with the sign bit dropped if the other bits are zero. -/
def fix (k : BitVec 4) : BitVec 4 := k &&& (((k &&& 7#4) + 7#4) ||| 7#4)

/-- The same on a word of any width, for a word `c` with a seven in each group of four bits. -/
def fixW {n : ℕ} (c w : BitVec n) : BitVec n := w &&& (((w &&& c) + c) ||| c)

/-- A word above a group of four bits, read as a number. -/
theorem toNat_app {n : ℕ} (x : BitVec n) (k : BitVec 4) : (x ++ k).toNat = 16 * x.toNat + k.toNat := by
  rw [BitVec.toNat_append, ← Nat.shiftLeft_add_eq_or_of_lt (b := k.toNat) k.isLt, Nat.shiftLeft_eq]
  omega

/-- A sum without a carry out of the lowest group of four bits. -/
theorem app_add {n : ℕ} (x y : BitVec n) (k l : BitVec 4) (h : k.toNat + l.toNat < 16) :
    (x ++ k) + (y ++ l) = (x + y) ++ (k + l) := by
  apply BitVec.eq_of_toNat_eq
  rw [BitVec.toNat_add, toNat_app, toNat_app, toNat_app, BitVec.toNat_add, BitVec.toNat_add, Nat.mod_eq_of_lt (a := k.toNat + l.toNat) h,
    show 2 ^ (n + 4) = 16 * 2 ^ n by rw [Nat.pow_add]; omega,
    show 16 * x.toNat + k.toNat + (16 * y.toNat + l.toNat) = 16 * (x.toNat + y.toNat) + (k.toNat + l.toNat) by omega,
    Nat.mod_mul, Nat.mul_add_mod, Nat.mod_eq_of_lt h, show (16 * (x.toNat + y.toNat) + (k.toNat + l.toNat)) / 16 = x.toNat + y.toNat by omega]
  omega

/-- The sign bits are dropped group by group. -/
theorem fixW_app {n : ℕ} (c x : BitVec n) (k : BitVec 4) : fixW (c ++ 7#4) (x ++ k) = fixW c x ++ fix k := by
  have h : ∀ k : BitVec 4, (k &&& 7#4).toNat + (7#4 : BitVec 4).toNat < 16 := by decide
  unfold fixW fix
  rw [BitVec.and_append, app_add _ _ _ _ (h k), BitVec.or_append, BitVec.and_append]

/-- The word of eight groups of four bits. -/
def word (k : Fin 8 → BitVec 4) : BitVec 32 := k 7 ++ k 6 ++ k 5 ++ k 4 ++ k 3 ++ k 2 ++ k 1 ++ k 0

theorem fixW_word (k : Fin 8 → BitVec 4) : fixW 2004318071#32 (word k) = word fun i => fix (k i) := by
  have e : (2004318071#32 : BitVec 32) = 7#4 ++ 7#4 ++ 7#4 ++ 7#4 ++ 7#4 ++ 7#4 ++ 7#4 ++ 7#4 := by decide
  unfold word
  rw [e, fixW_app, fixW_app, fixW_app, fixW_app, fixW_app, fixW_app, fixW_app]
  rfl

theorem toNat_word (k : Fin 8 → BitVec 4) : (word k).toNat = 16 * (16 * (16 * (16 * (16 * (16 * (16 * (k 7).toNat + (k 6).toNat) + (k 5).toNat)
    + (k 4).toNat) + (k 3).toNat) + (k 2).toNat) + (k 1).toNat) + (k 0).toNat := by
  unfold word
  rw [toNat_app, toNat_app, toNat_app, toNat_app, toNat_app, toNat_app, toNat_app]

/-- The sum of the eight shifted codes is the word of them. -/
theorem sum_word (k : Fin 8 → BitVec 4) :
    (Finset.univ.fold IntOp.addi 0#32 fun i : Fin 8 => IntOp.shli .vector ((k i).setWidth 32) (IntOp.muli 4#32 (BitVec.ofNat 32 i.val))) = word k := by
  have hs : ∀ i : Fin 8, (IntOp.shli .vector ((k i).setWidth 32) (IntOp.muli 4#32 (BitVec.ofNat 32 i.val))).toNat = (k i).toNat * 2 ^ (4 * i.val) := by
    intro i
    have : ∀ (i : Fin 8) (b : BitVec 4), (IntOp.shli .vector (b.setWidth 32) (IntOp.muli 4#32 (BitVec.ofNat 32 i.val))).toNat = b.toNat * 2 ^ (4 * i.val) := by
      decide
    exact this i (k i)
  have hf : ∀ f : Fin 8 → BitVec 32, (Finset.univ.fold IntOp.addi 0#32 f) = ∑ i, f i := by
    intro f; rfl
  apply BitVec.eq_of_toNat_eq
  have hb : ∀ i, (k i).toNat < 16 := fun i => (k i).isLt
  have := hb 0; have := hb 1; have := hb 2; have := hb 3; have := hb 4; have := hb 5; have := hb 6; have := hb 7
  have hsum : ∑ i : Fin 8, (IntOp.shli .vector ((k i).setWidth 32) (IntOp.muli 4#32 (BitVec.ofNat 32 i.val))).toNat = (word k).toNat := by
    simp only [hs, Fin.sum_univ_eight, toNat_word]
    show (k 0).toNat * 2 ^ (4 * 0) + (k 1).toNat * 2 ^ (4 * 1) + (k 2).toNat * 2 ^ (4 * 2) + (k 3).toNat * 2 ^ (4 * 3) + (k 4).toNat * 2 ^ (4 * 4)
      + (k 5).toNat * 2 ^ (4 * 5) + (k 6).toNat * 2 ^ (4 * 6) + (k 7).toNat * 2 ^ (4 * 7) = _
    omega
  rw [hf, WordSum.toNat_sum _ _ (by rw [hsum]; exact (word k).isLt), hsum]

/-- A byte of the word is two neighbouring codes. -/
theorem byte_word (k : Fin 8 → BitVec 4) (b : Fin 4) :
    (word k).extractLsb' (8 * b.val) 8 = k ⟨2 * b.val + 1, by omega⟩ ++ k ⟨2 * b.val, by omega⟩ := by
  apply BitVec.eq_of_toNat_eq
  rw [BitVec.extractLsb'_toNat, toNat_app, toNat_word, Nat.shiftRight_eq_div_pow]
  have hb : ∀ i, (k i).toNat < 16 := fun i => (k i).isLt
  have := hb 0; have := hb 1; have := hb 2; have := hb 3; have := hb 4; have := hb 5; have := hb 6; have := hb 7
  match b with
  | 0 => show _ = 16 * (k 1).toNat + (k 0).toNat; simp only [Fin.val_zero]; omega
  | 1 => show _ = 16 * (k 3).toNat + (k 2).toNat; show _ / 2 ^ 8 % 2 ^ 8 = _; omega
  | 2 => show _ = 16 * (k 5).toNat + (k 4).toNat; show _ / 2 ^ 16 % 2 ^ 8 = _; omega
  | 3 => show _ = 16 * (k 7).toNat + (k 6).toNat; show _ / 2 ^ 24 % 2 ^ 8 = _; omega

/-- Two codes packed by a shift and an or. -/
theorem pair (k l : BitVec 4) : ((k.setWidth 32 ||| IntOp.shli .vector (l.setWidth 32) 4#32) : BitVec 32).setWidth 8 = (l ++ k : BitVec 8) := by
  revert k l; decide

end Cert.Nibble
-- ==== Proof.Rounding.lean ====
/- Rounding a number between −6 and 6 to the nearest of 0, ½, 1, 1½, 2, 3, 4, 6 and their negatives, ties to even, and the
   four-bit code of the result: by thresholds on the number itself, and by thresholds on the rounded number. -/
module

public import Idealize.ShloMosaic.PureOps.Ideal
public import Idealize.ShloMosaic.Lib.IdealHost
public import proofs.«01_k».proof.Proof.Nibble

@[expose] public section

noncomputable section

namespace Cert.Rounding

open Idealize.ShloMosaic

/-- The nearest integer to `x`, ties to even, is `n` if `x` is less than a half away, or a half away and `n` is even. -/
theorem roundHalfEven_eq {x : ℝ} {n : ℤ} (h : |x - n| < 1 / 2 ∨ (Even n ∧ |x - n| ≤ 1 / 2)) : Ideal.roundHalfEven x = n := by
  have hle : |x - n| ≤ 1 / 2 := h.elim le_of_lt And.right
  have h1 := (abs_le.mp hle).1
  have h2 := (abs_le.mp hle).2
  unfold Ideal.roundHalfEven
  by_cases hx : (n : ℝ) ≤ x
  · have hf : ⌊x⌋ = n := Int.floor_eq_iff.mpr ⟨hx, by linarith⟩
    simp only [hf]
    by_cases h3 : x - n < 1 / 2
    · rw [if_pos h3]
    · rw [if_neg h3, if_neg (by linarith), if_pos]
      rcases h with h | h
      · exact absurd (abs_lt.mp h).2 h3
      · exact h.1
  · have hx' : x < n := not_le.mp hx
    have hf : ⌊x⌋ = n - 1 := Int.floor_eq_iff.mpr ⟨by push_cast; linarith, by push_cast; linarith⟩
    simp only [hf]
    push_cast
    rw [if_neg (by linarith)]
    by_cases h3 : 1 / 2 < x - (n - 1)
    · rw [if_pos h3]; ring
    · rw [if_neg h3, if_neg]
      · ring
      · rcases h with h | h
        · have := (abs_lt.mp h).1; exact absurd (by linarith) h3
        · intro he; have := h.1; rw [Int.even_sub] at he; simp_all

/-! ## The constants -/

theorem c0 : Ideal.ofBits .f32 0x00000000#32 = ((0 : ℝ) : EReal) := by
  simp [Ideal.ofBits, Ideal.ieee, -EReal.coe_mul]
theorem c025 : Ideal.ofBits .f32 0x3E800000#32 = ((1 / 4 : ℝ) : EReal) := by
  simp [Ideal.ofBits, Ideal.ieee, -EReal.coe_mul]; norm_num
theorem c05 : Ideal.ofBits .f32 0x3F000000#32 = ((1 / 2 : ℝ) : EReal) := by
  simp [Ideal.ofBits, Ideal.ieee, -EReal.coe_mul]; norm_num
theorem c075 : Ideal.ofBits .f32 0x3F400000#32 = ((3 / 4 : ℝ) : EReal) := by
  simp [Ideal.ofBits, Ideal.ieee, -EReal.coe_mul]; norm_num
theorem c1 : Ideal.ofBits .f32 0x3F800000#32 = ((1 : ℝ) : EReal) := by
  simp [Ideal.ofBits, Ideal.ieee, -EReal.coe_mul]; norm_num
theorem c125 : Ideal.ofBits .f32 0x3FA00000#32 = ((5 / 4 : ℝ) : EReal) := by
  simp [Ideal.ofBits, Ideal.ieee, -EReal.coe_mul]; norm_num
theorem c15 : Ideal.ofBits .f32 0x3FC00000#32 = ((3 / 2 : ℝ) : EReal) := by
  simp [Ideal.ofBits, Ideal.ieee, -EReal.coe_mul]; norm_num
theorem c175 : Ideal.ofBits .f32 0x3FE00000#32 = ((7 / 4 : ℝ) : EReal) := by
  simp [Ideal.ofBits, Ideal.ieee, -EReal.coe_mul]; norm_num
theorem c2 : Ideal.ofBits .f32 0x40000000#32 = ((2 : ℝ) : EReal) := by
  simp [Ideal.ofBits, Ideal.ieee, -EReal.coe_mul]; norm_num
theorem c25 : Ideal.ofBits .f32 0x40200000#32 = ((5 / 2 : ℝ) : EReal) := by
  simp [Ideal.ofBits, Ideal.ieee, -EReal.coe_mul]; norm_num
theorem c3 : Ideal.ofBits .f32 0x40400000#32 = ((3 : ℝ) : EReal) := by
  simp [Ideal.ofBits, Ideal.ieee, -EReal.coe_mul]; norm_num
theorem c35 : Ideal.ofBits .f32 0x40600000#32 = ((7 / 2 : ℝ) : EReal) := by
  simp [Ideal.ofBits, Ideal.ieee, -EReal.coe_mul]; norm_num
theorem c4 : Ideal.ofBits .f32 0x40800000#32 = ((4 : ℝ) : EReal) := by
  simp [Ideal.ofBits, Ideal.ieee, -EReal.coe_mul]; norm_num
theorem c5 : Ideal.ofBits .f32 0x40A00000#32 = ((5 : ℝ) : EReal) := by
  simp [Ideal.ofBits, Ideal.ieee, -EReal.coe_mul]; norm_num
theorem c6 : Ideal.ofBits .f32 0x40C00000#32 = ((6 : ℝ) : EReal) := by
  simp [Ideal.ofBits, Ideal.ieee, -EReal.coe_mul]; norm_num
theorem cm6 : Ideal.ofBits .f32 0xC0C00000#32 = ((-6 : ℝ) : EReal) := by
  simp [Ideal.ofBits, Ideal.ieee, -EReal.coe_mul, -EReal.coe_neg]; norm_num
theorem cbot : Ideal.ofBits .f32 0xFF800000#32 = ⊥ := by
  simp [Ideal.ofBits, Ideal.ieee]

/-! ## Thresholds on the number itself -/

/-- How many of the seven midpoints `a` passes. -/
def magK (a : EReal) : BitVec 32 :=
  (Ideal.cmp .ogt a (Ideal.ofBits .f32 0x3E800000#32)).setWidth 32 + (Ideal.cmp .oge a (Ideal.ofBits .f32 0x3F400000#32)).setWidth 32
  + (Ideal.cmp .ogt a (Ideal.ofBits .f32 0x3FA00000#32)).setWidth 32 + (Ideal.cmp .oge a (Ideal.ofBits .f32 0x3FE00000#32)).setWidth 32
  + (Ideal.cmp .ogt a (Ideal.ofBits .f32 0x40200000#32)).setWidth 32 + (Ideal.cmp .oge a (Ideal.ofBits .f32 0x40600000#32)).setWidth 32
  + (Ideal.cmp .ogt a (Ideal.ofBits .f32 0x40A00000#32)).setWidth 32

/-- The code by thresholds on the number: eight more for a number below zero. -/
def codeK (y : EReal) : BitVec 32 :=
  magK (max y (-y)) + Scalar.select (Ideal.cmp .olt y (Ideal.ofBits .f32 0x00000000#32)) 8#32 0#32

/-! ## Thresholds on the rounded number -/

/-- The distance of neighbouring values of the format at `y`. -/
def step (y : EReal) : EReal :=
  Scalar.select (Ideal.cmp .olt (max y (-y)) (Ideal.ofBits .f32 0x40000000#32)) (Ideal.ofBits .f32 0x3F000000#32)
    (Scalar.select (Ideal.cmp .olt (max y (-y)) (Ideal.ofBits .f32 0x40800000#32)) (Ideal.ofBits .f32 0x3F800000#32) (Ideal.ofBits .f32 0x40000000#32))

/-- The value of the format nearest to `y`. -/
def rnd (y : EReal) : EReal := Ideal.liftRound Ideal.roundHalfEven (Ideal.div y (step y)) * step y

/-- How many of the format's positive values `a` reaches. -/
def magR (a : EReal) : BitVec 32 :=
  0#32 + (Ideal.cmp .oge a (Ideal.ofBits .f32 0x3F000000#32)).setWidth 32 + (Ideal.cmp .oge a (Ideal.ofBits .f32 0x3F800000#32)).setWidth 32
  + (Ideal.cmp .oge a (Ideal.ofBits .f32 0x3FC00000#32)).setWidth 32 + (Ideal.cmp .oge a (Ideal.ofBits .f32 0x40000000#32)).setWidth 32
  + (Ideal.cmp .oge a (Ideal.ofBits .f32 0x40400000#32)).setWidth 32 + (Ideal.cmp .oge a (Ideal.ofBits .f32 0x40800000#32)).setWidth 32
  + (Ideal.cmp .oge a (Ideal.ofBits .f32 0x40C00000#32)).setWidth 32

/-- The code of the rounded number. -/
def codeR (y : EReal) : BitVec 32 :=
  Scalar.select (Ideal.cmp .olt (rnd y) (Ideal.ofBits .f32 0x00000000#32)) 8#32 0#32 + magR (max (rnd y) (-(rnd y)))

/-! ## The two codes agree -/

theorem absE (r : ℝ) : max (r : EReal) (-(r : EReal)) = ((|r| : ℝ) : EReal) := by
  rw [← EReal.coe_neg]
  rcases le_total 0 r with h | h
  · rw [abs_of_nonneg h, max_eq_left (EReal.coe_le_coe_iff.mpr (by linarith))]
  · rw [abs_of_nonpos h, max_eq_right (EReal.coe_le_coe_iff.mpr (by linarith))]

theorem cmp_ogt (a b : ℝ) : Ideal.cmp .ogt (a : EReal) b = BitVec.ofBool (decide (b < a)) := by
  simp only [Ideal.cmp, EReal.coe_lt_coe_iff]
theorem cmp_olt (a b : ℝ) : Ideal.cmp .olt (a : EReal) b = BitVec.ofBool (decide (a < b)) := by
  simp only [Ideal.cmp, EReal.coe_lt_coe_iff]
theorem cmp_oge (a b : ℝ) : Ideal.cmp .oge (a : EReal) b = BitVec.ofBool (decide (b ≤ a)) := by
  simp only [Ideal.cmp, EReal.coe_le_coe_iff]

/-- Division of real numbers. -/
theorem divE (a b : ℝ) (hb : b ≠ 0) : Ideal.div (a : EReal) b = ((a / b : ℝ) : EReal) := by
  rw [Ideal.div_coe hb, ← EReal.coe_mul, mul_one_div]

/-- The eight intervals of an absolute value up to six, with the value of the format that each is rounded to. -/
theorem pieces {a : ℝ} (h0 : 0 ≤ a) (h6 : a ≤ 6) :
    (a ≤ 1 / 4 ∨ (1 / 4 < a ∧ a < 3 / 4) ∨ (3 / 4 ≤ a ∧ a ≤ 5 / 4) ∨ (5 / 4 < a ∧ a < 7 / 4) ∨ (7 / 4 ≤ a ∧ a ≤ 5 / 2)
      ∨ (5 / 2 < a ∧ a < 7 / 2) ∨ (7 / 2 ≤ a ∧ a ≤ 5) ∨ 5 < a) := by
  by_contra h; push Not at h
  obtain ⟨h1, h2, h3, h4, h5, h6, h7, h8⟩ := h
  linarith [h7 (h6 (lt_of_not_ge fun h => absurd (h5 (h4 (lt_of_not_ge fun h => absurd (h3 (h2 h1)) (not_lt.mpr h))) ) (not_lt.mpr h)))]

/-- What the nearest integer satisfies. -/
theorem roundHalfEven_spec (x : ℝ) :
    |x - Ideal.roundHalfEven x| < 1 / 2 ∨ (Even (Ideal.roundHalfEven x) ∧ |x - Ideal.roundHalfEven x| ≤ 1 / 2) := by
  have h1 := Int.floor_le x
  have h2 := Int.lt_floor_add_one x
  unfold Ideal.roundHalfEven
  dsimp only
  split_ifs with h3 h4 h5
  · left; rw [abs_lt]; constructor <;> linarith
  · left; push_cast; rw [abs_lt]; constructor <;> linarith
  · right; refine ⟨h5, ?_⟩; rw [abs_le]; constructor <;> linarith
  · right
    refine ⟨?_, ?_⟩
    · rw [Int.even_add]; simp [h5]
    · push_cast; rw [abs_le]; constructor <;> linarith

/-- Rounding is odd. -/
theorem roundHalfEven_neg (x : ℝ) : Ideal.roundHalfEven (-x) = -Ideal.roundHalfEven x := by
  apply roundHalfEven_eq
  have e : |-x - ((-Ideal.roundHalfEven x : ℤ) : ℝ)| = |x - Ideal.roundHalfEven x| := by
    push_cast; rw [show -x - -(Ideal.roundHalfEven x : ℝ) = -(x - Ideal.roundHalfEven x) by ring, abs_neg]
  rw [e]
  exact (roundHalfEven_spec x).imp id fun h => ⟨h.1.neg, h.2⟩

/-- The distance of neighbouring values at a real number. -/
def stepR (r : ℝ) : ℝ := if |r| < 2 then 1 / 2 else if |r| < 4 then 1 else 2

theorem stepR_pos (r : ℝ) : 0 < stepR r := by unfold stepR; split_ifs <;> norm_num

theorem step_coe (r : ℝ) : step r = ((stepR r : ℝ) : EReal) := by
  unfold step stepR
  rw [absE, c2, c4, c05, c1, cmp_olt, cmp_olt]
  by_cases h2 : |r| < 2
  · simp [h2, Scalar.select]
  · by_cases h4 : |r| < 4 <;> simp [h2, h4, Scalar.select]

theorem rnd_coe (r : ℝ) : rnd r = (((Ideal.roundHalfEven (r / stepR r) : ℝ) * stepR r : ℝ) : EReal) := by
  unfold rnd
  rw [step_coe, divE _ _ (stepR_pos r).ne', Ideal.liftRound_coe, ← EReal.coe_mul]

theorem rnd_neg (r : ℝ) : rnd ((-r : ℝ) : EReal) = -rnd r := by
  rw [rnd_coe, rnd_coe, ← EReal.coe_neg, show stepR (-r) = stepR r by unfold stepR; rw [abs_neg], neg_div, roundHalfEven_neg]
  push_cast; rw [neg_mul]

/-- The number is rounded to the multiple `n s` of the distance `s` there, if that is nearest. -/
theorem rnd_of {r s : ℝ} (n : ℤ) (hs : stepR r = s) (h : |r - n * s| < s / 2 ∨ (Even n ∧ |r - n * s| ≤ s / 2)) :
    rnd r = ((n * s : ℝ) : EReal) := by
  have hp : 0 < s := hs ▸ stepR_pos r
  have e : |r / s - n| = |r - n * s| / s := by
    rw [← abs_of_pos hp, ← abs_div, abs_of_pos hp, sub_div, mul_div_cancel_right₀ _ hp.ne']
  rw [rnd_coe, hs, roundHalfEven_eq (x := r / s) (n := n)]
  rw [e, div_lt_iff₀ hp, div_le_iff₀ hp]
  exact h.imp (fun h => by linarith) fun h => ⟨h.1, by linarith [h.2]⟩

/-- The format's values from zero up. -/
def val : Fin 8 → ℝ := ![0, 1 / 2, 1, 3 / 2, 2, 3, 4, 6]

theorem vals : val 0 = 0 ∧ val 1 = 1 / 2 ∧ val 2 = 1 ∧ val 3 = 3 / 2 ∧ val 4 = 2 ∧ val 5 = 3 ∧ val 6 = 4 ∧ val 7 = 6 :=
  ⟨rfl, rfl, rfl, rfl, rfl, rfl, rfl, rfl⟩

/-- A number from zero to six passes as many midpoints as the place of the value that it is rounded to. -/
theorem piece {a : ℝ} (h0 : 0 ≤ a) (h6 : a ≤ 6) : ∃ i : Fin 8, magK a = BitVec.ofNat 32 i.val ∧ rnd a = ((val i : ℝ) : EReal) := by
  have st2 (h : a < 2) : stepR a = 1 / 2 := by unfold stepR; rw [abs_of_nonneg h0, if_pos h]
  have st4 (h : 2 ≤ a) (h' : a < 4) : stepR a = 1 := by
    unfold stepR; rw [abs_of_nonneg h0, if_neg (not_lt.mpr h), if_pos h']
  have st6 (h : 4 ≤ a) : stepR a = 2 := by
    unfold stepR; rw [abs_of_nonneg h0, if_neg (by linarith), if_neg (not_lt.mpr h)]
  unfold magK
  rw [c025, c075, c125, c175, c25, c35, c5]
  simp only [cmp_ogt, cmp_oge]
  have T {p : Prop} [Decidable p] (h : p) : decide p = true := decide_eq_true h
  have N {p : Prop} [Decidable p] (h : ¬p) : decide p = false := decide_eq_false h
  rcases pieces h0 h6 with h | h | h | h | h | h | h | h
  · refine ⟨0, ?_, (rnd_of 0 (st2 (by linarith)) ?_).trans ?_⟩
    · rw [N (by linarith), N (by linarith), N (by linarith), N (by linarith), N (by linarith), N (by linarith), N (by linarith)]; rfl
    · right; push_cast; refine ⟨by decide, ?_⟩; rw [abs_le]; constructor <;> linarith
    · norm_num [vals]
  · refine ⟨1, ?_, (rnd_of 1 (st2 (by linarith)) ?_).trans ?_⟩
    · rw [T (by linarith), N (by linarith), N (by linarith), N (by linarith), N (by linarith), N (by linarith), N (by linarith)]; rfl
    · left; push_cast; rw [abs_lt]; constructor <;> linarith
    · norm_num [vals]
  · refine ⟨2, ?_, (rnd_of 2 (st2 (by linarith)) ?_).trans ?_⟩
    · rw [T (by linarith), T (by linarith), N (by linarith), N (by linarith), N (by linarith), N (by linarith), N (by linarith)]; rfl
    · right; push_cast; refine ⟨by decide, ?_⟩; rw [abs_le]; constructor <;> linarith
    · norm_num [vals]
  · refine ⟨3, ?_, (rnd_of 3 (st2 (by linarith)) ?_).trans ?_⟩
    · rw [T (by linarith), T (by linarith), T (by linarith), N (by linarith), N (by linarith), N (by linarith), N (by linarith)]; rfl
    · left; push_cast; rw [abs_lt]; constructor <;> linarith
    · norm_num [vals]
  · refine ⟨4, ?_, ?_⟩
    · rw [T (by linarith), T (by linarith), T (by linarith), T (by linarith), N (by linarith), N (by linarith), N (by linarith)]; rfl
    · rcases lt_or_ge a 2 with h2 | h2
      · refine (rnd_of 4 (st2 h2) ?_).trans ?_
        · right; push_cast; refine ⟨by decide, ?_⟩; rw [abs_le]; constructor <;> linarith
        · norm_num [vals]
      · refine (rnd_of 2 (st4 h2 (by linarith)) ?_).trans ?_
        · right; push_cast; refine ⟨by decide, ?_⟩; rw [abs_le]; constructor <;> linarith
        · norm_num [vals]
  · refine ⟨5, ?_, (rnd_of 3 (st4 (by linarith) (by linarith)) ?_).trans ?_⟩
    · rw [T (by linarith), T (by linarith), T (by linarith), T (by linarith), T (by linarith), N (by linarith), N (by linarith)]; rfl
    · left; push_cast; rw [abs_lt]; constructor <;> linarith
    · norm_num [vals]
  · refine ⟨6, ?_, ?_⟩
    · rw [T (by linarith), T (by linarith), T (by linarith), T (by linarith), T (by linarith), T (by linarith), N (by linarith)]; rfl
    · rcases lt_or_ge a 4 with h2 | h2
      · refine (rnd_of 4 (st4 (by linarith) h2) ?_).trans ?_
        · right; push_cast; refine ⟨by decide, ?_⟩; rw [abs_le]; constructor <;> linarith
        · norm_num [vals]
      · refine (rnd_of 2 (st6 h2) ?_).trans ?_
        · right; push_cast; refine ⟨by decide, ?_⟩; rw [abs_le]; constructor <;> linarith
        · norm_num [vals]
  · refine ⟨7, ?_, (rnd_of 3 (st6 (by linarith)) ?_).trans ?_⟩
    · rw [T (by linarith), T (by linarith), T (by linarith), T (by linarith), T (by linarith), T (by linarith), T (by linarith)]; rfl
    · left; push_cast; rw [abs_lt]; constructor <;> linarith
    · norm_num [vals]

/-- A value of the format reaches as many values as its place. -/
theorem magR_val (i : Fin 8) : magR ((val i : ℝ) : EReal) = BitVec.ofNat 32 i.val := by
  unfold magR
  rw [c05, c1, c15, c2, c3, c4, c6]
  simp only [cmp_oge]
  fin_cases i <;> norm_num [val] <;> rfl

theorem val_nonneg (i : Fin 8) : 0 ≤ val i := by fin_cases i <;> norm_num [val]
theorem val_zero_iff (i : Fin 8) : val i = 0 ↔ i = 0 := by fin_cases i <;> norm_num [val]

/-- The code by thresholds on the number is a code of four bits, and with the sign dropped from a zero code it is the code
    of the rounded number. -/
theorem code_real (r : ℝ) (h : |r| ≤ 6) : ∃ k : BitVec 4, codeK r = k.setWidth 32 ∧ codeR r = (Nibble.fix k).setWidth 32 := by
  obtain ⟨i, hk, hv⟩ := piece (abs_nonneg r) h
  have hn := val_nonneg i
  unfold codeK codeR
  rw [absE, hk, c0, cmp_olt]
  rcases le_or_gt 0 r with h0 | h0
  · rw [abs_of_nonneg h0] at hv
    rw [hv, absE, abs_of_nonneg hn, magR_val, cmp_olt, decide_eq_false (not_lt.mpr h0), decide_eq_false (not_lt.mpr hn)]
    refine ⟨BitVec.ofNat 4 i.val, ?_⟩
    clear hk hv hn
    revert i; decide
  · rw [abs_of_neg h0, rnd_neg] at hv
    have hv' : rnd r = ((-val i : ℝ) : EReal) := by rw [EReal.coe_neg, ← hv, neg_neg]
    rw [hv', absE, abs_neg, abs_of_nonneg hn, magR_val, cmp_olt, decide_eq_true h0]
    refine ⟨BitVec.ofNat 4 i.val + 8#4, ?_⟩
    by_cases hi : i = 0
    · rw [decide_eq_false (by rw [(val_zero_iff i).mpr hi]; norm_num), hi]; decide
    · rw [decide_eq_true (by have := lt_of_le_of_ne hn (fun h => hi ((val_zero_iff i).mp h.symm)); linarith)]
      clear hk hv hv' hn
      revert i; decide

/-- The number clamped to the format's range. -/
def clamp (z : EReal) : EReal := min (Ideal.ofBits .f32 0x40C00000#32) (max (Ideal.ofBits .f32 0xC0C00000#32) z)

theorem clamp_real (z : EReal) : ∃ r : ℝ, clamp z = (r : EReal) ∧ |r| ≤ 6 := by
  have h1 : ((-6 : ℝ) : EReal) ≤ clamp z := by
    unfold clamp; rw [c6, cm6]; exact le_min (EReal.coe_le_coe_iff.mpr (by norm_num)) (le_max_left _ _)
  have h2 : clamp z ≤ ((6 : ℝ) : EReal) := by unfold clamp; rw [c6]; exact min_le_left _ _
  have hb : clamp z ≠ ⊥ := fun h => absurd (h ▸ h1) (by simp [← EReal.coe_neg])
  have ht : clamp z ≠ ⊤ := fun h => absurd (h ▸ h2) (by simp)
  refine ⟨(clamp z).toReal, (EReal.coe_toReal ht hb).symm, ?_⟩
  rw [← EReal.coe_toReal ht hb, EReal.coe_le_coe_iff] at h1 h2
  exact abs_le.mpr ⟨h1, h2⟩

/-- The two codes of a clamped number. -/
theorem code_clamp (z : EReal) : ∃ k : BitVec 4, codeK (clamp z) = k.setWidth 32 ∧ codeR (clamp z) = (Nibble.fix k).setWidth 32 := by
  obtain ⟨r, hr, h6⟩ := clamp_real z
  rw [hr]; exact code_real r h6

end Cert.Rounding

end
-- ==== Proof.Row.lean ====
/- The quantisation of one row of 6912 numbers over the extended reals: the scale of the row, the scale of each sub-block
   of sixteen, the clamped quotients and the packed codes. -/
module

public import proofs.«01_k».proof.Proof.Rounding

@[expose] public section

noncomputable section

namespace Cert.Row

open Idealize.ShloMosaic

/-- The absolute value. -/
abbrev abs (x : EReal) : EReal := max x (-x)

/-- Entry `i` of sub-block `n`. -/
abbrev at16 (n : Fin 432) (i : Fin 16) : Fin 6912 := ⟨16 * n.val + i.val, by omega⟩
/-- The sub-block of an entry. -/
abbrev blk (c : Fin 6912) : Fin 432 := ⟨c.val / 16, by omega⟩

variable (r : Fin 6912 → EReal)

/-- The largest absolute value of the row, -/
def rowMax : EReal := Finset.univ.sup fun c => abs (r c)
/-- and of sub-block `n`. -/
def blkMax (n : Fin 432) : EReal := Finset.univ.sup fun i => abs (r (at16 n i))
/-- The scale of the row: its largest absolute value over 2688, or one if that is not positive. -/
def sG : EReal :=
  Scalar.select (Ideal.cmp .ogt (rowMax r) (Ideal.ofBits .f32 0x00000000#32)) (Ideal.div (rowMax r) (Ideal.ofBits .f32 0x45280000#32))
    (Ideal.ofBits .f32 0x3F800000#32)
/-- The scale of sub-block `n`. -/
def sB (n : Fin 432) : EReal := min (Ideal.div (blkMax r n) (Ideal.ofBits .f32 0x40C00000#32 * sG r)) (Ideal.ofBits .f32 0x43E00000#32)
/-- The two scales' product, or one where it is zero. -/
def eff (n : Fin 432) : EReal :=
  Scalar.select (Ideal.cmp .oeq (sB r n * sG r) (Ideal.ofBits .f32 0x00000000#32)) (Ideal.ofBits .f32 0x3F800000#32) (sB r n * sG r)
/-- The clamped quotient of an entry. -/
def y (c : Fin 6912) : EReal := Rounding.clamp (Ideal.div (r c) (eff r (blk c)))
/-- Byte `q` of the packed codes: the codes of entries `2 q` and `2 q + 1`, the first in the low four bits. -/
def byte (q : Fin 3456) : BitVec 8 :=
  (Rounding.codeR (y r ⟨2 * q.val, by omega⟩) ||| IntOp.shli .vector (Rounding.codeR (y r ⟨2 * q.val + 1, by omega⟩)) 4#32).setWidth 8

theorem eff_ne (n : Fin 432) : eff r n ≠ 0 := by
  unfold eff
  simp only [Rounding.c0, Rounding.c1, Ideal.cmp, EReal.coe_zero]
  by_cases h : sB r n * sG r = 0
  · simp [h, Scalar.select]
  · simp [h, Scalar.select]

/-- To multiply by the reciprocal is to divide. -/
theorem mul_recip (x : EReal) (n : Fin 432) : x * Ideal.div (Ideal.ofBits .f32 0x3F800000#32) (eff r n) = Ideal.div x (eff r n) := by
  unfold Ideal.div
  rw [if_neg (eff_ne r n), if_neg (eff_ne r n), Rounding.c1, EReal.coe_one, one_mul]

/-- The row's maximum is the largest of the sub-blocks' maxima. -/
theorem rowMax_blk : (Finset.univ.sup fun n => blkMax r n) = rowMax r := by
  apply le_antisymm
  · exact Finset.sup_le fun n _ => Finset.sup_le fun i _ => Finset.le_sup (f := fun c => abs (r c)) (Finset.mem_univ (at16 n i))
  · refine Finset.sup_le fun c _ => ?_
    have e : c = at16 (blk c) ⟨c.val % 16, by omega⟩ := Fin.ext (by show c.val = 16 * (c.val / 16) + c.val % 16; omega)
    calc abs (r c) = abs (r (at16 (blk c) ⟨c.val % 16, by omega⟩)) := by rw [← e]
      _ ≤ blkMax r (blk c) := Finset.le_sup (f := fun i => abs (r (at16 (blk c) i))) (Finset.mem_univ _)
      _ ≤ _ := Finset.le_sup (f := fun n => blkMax r n) (Finset.mem_univ _)

/-- The larger of two entries eight apart, over eight pairs, is the largest of the sixteen. -/
theorem max_pairs (f : Fin 16 → EReal) :
    max (max (max (max (max (max (max (max (f 0) (f 8)) (max (f 1) (f 9))) (max (f 2) (f 10))) (max (f 3) (f 11))) (max (f 4) (f 12))) (max (f 5) (f 13))) (max (f 6) (f 14))) (max (f 7) (f 15))
      = Finset.univ.sup f := by
  apply le_antisymm
  · have h (i : Fin 16) : f i ≤ Finset.univ.sup f := Finset.le_sup (Finset.mem_univ i)
    simp only [max_le_iff, h, and_self]
  · refine Finset.sup_le fun i _ => ?_
    fin_cases i <;> simp [le_max_iff]

/-- A running maximum from the least number is the largest element. -/
theorem fold_max {n : ℕ} (f : Fin n → EReal) : Finset.univ.fold max (Ideal.ofBits .f32 0xFF800000#32) f = Finset.univ.sup f := by
  rw [Rounding.cbot]; rfl

end Cert.Row

end
-- ==== Proof.Ops.lean ====
/- The vector operations that kernel and reference share, read at an index over the extended reals. -/
module

public import proofs.«01_k».proof.Proof.Row
public import Idealize.ShloMosaic.PureOps.Ideal.Laws
public import Idealize.ShloMosaic.Lib.Pointwise

@[expose] public section

noncomputable section

namespace Cert.Ops

open Idealize.ShloMosaic

/-- A maximum along the last of three axes is the least upper bound. -/
theorem max_r3 {n0 n1 n2 : ℕ} (v : FVec Ideal ⟨3, ![n0, n1, n2]⟩ .f32)
    (h : (⟨3, ![n0, n1, n2]⟩ : Shape).Reduces [2] ⟨2, ![n0, n1]⟩) (hφ : FKind.Formats .f32) (hacc : 0xFF800000#32 = FKind.maximumf.neutral .f32 hφ)
    (b : Fin n0) (s : Fin n1) :
    multiReduction .maximumf [2] ⟨2, ![n0, n1]⟩ v 0xFF800000#32 h hφ hacc (ix2 b s) = Finset.univ.sup fun c => v (ix3 b s c) := by
  refine (Ideal.multiReduction_maximumf_single _ _ _ _ _ _).trans ((Row.fold_max _).trans ?_)
  refine congrArg _ (funext fun c => congrArg v (funext fun a => ?_))
  match a with | ⟨0, _⟩ => rfl | ⟨1, _⟩ => rfl | ⟨2, _⟩ => rfl

/-- A maximum along the last of four axes. -/
theorem max_r4 {n0 n1 n2 n3 : ℕ} (v : FVec Ideal ⟨4, ![n0, n1, n2, n3]⟩ .f32)
    (h : (⟨4, ![n0, n1, n2, n3]⟩ : Shape).Reduces [3] ⟨3, ![n0, n1, n2]⟩) (hφ : FKind.Formats .f32) (hacc : 0xFF800000#32 = FKind.maximumf.neutral .f32 hφ)
    (b : Fin n0) (s : Fin n1) (n : Fin n2) :
    multiReduction .maximumf [3] ⟨3, ![n0, n1, n2]⟩ v 0xFF800000#32 h hφ hacc (ix3 b s n) = Finset.univ.sup fun c => v (ix4 b s n c) := by
  refine (Ideal.multiReduction_maximumf_single _ _ _ _ _ _).trans ((Row.fold_max _).trans ?_)
  refine congrArg _ (funext fun c => congrArg v (funext fun a => ?_))
  match a with | ⟨0, _⟩ => rfl | ⟨1, _⟩ => rfl | ⟨2, _⟩ => rfl | ⟨3, _⟩ => rfl

/-- A maximum along the first of two axes. -/
theorem max_r2 {n0 n1 : ℕ} (v : FVec Ideal ⟨2, ![n0, n1]⟩ .f32)
    (h : (⟨2, ![n0, n1]⟩ : Shape).Reduces [0] ⟨1, ![n1]⟩) (hφ : FKind.Formats .f32) (hacc : 0xFF800000#32 = FKind.maximumf.neutral .f32 hφ)
    (l : Fin n1) :
    multiReduction .maximumf [0] ⟨1, ![n1]⟩ v 0xFF800000#32 h hφ hacc (ix1 l) = Finset.univ.sup fun c => v (ix2 c l) := by
  refine (Ideal.multiReduction_maximumf_single _ _ _ _ _ _).trans ((Row.fold_max _).trans ?_)
  refine congrArg _ (funext fun c => congrArg v (funext fun a => ?_))
  match a with | ⟨0, _⟩ => rfl | ⟨1, _⟩ => rfl

variable {s : Shape}

/-- The scale of a row from its maximum. -/
theorem sG_at (M : FVec Ideal s .f32) (j : s.Idx) :
    select (cmpf .ogt M (broadcast s (Scalar.ofBits .f32 0x00000000#32))) (divf M (broadcast s (Scalar.ofBits .f32 0x45280000#32)))
        (broadcast s (Scalar.ofBits .f32 0x3F800000#32)) j
      = Scalar.select (Ideal.cmp .ogt (M j) (Ideal.ofBits .f32 0x00000000#32)) (Ideal.div (M j) (Ideal.ofBits .f32 0x45280000#32))
        (Ideal.ofBits .f32 0x3F800000#32) := rfl

/-- The scale of a sub-block from its maximum `B` and the divisor `D`. -/
theorem sB_at (B D : FVec Ideal s .f32) (h : FTy.fp8e4m3.bits < FTy.f32.bits) (j : s.Idx) :
    (truncf .fp8e4m3 (minimumf (divf B D) (broadcast s (Scalar.ofBits .f32 0x43E00000#32))) h : FVec Ideal s .fp8e4m3) j
      = min (Ideal.div (B j) (D j)) (Ideal.ofBits .f32 0x43E00000#32) := rfl

/-- The product of the scales, one in place of zero. -/
theorem eff_at (E : FVec Ideal s .f32) (j : s.Idx) :
    select (cmpf .oeq E (broadcast s (Scalar.ofBits .f32 0x00000000#32))) (broadcast s (Scalar.ofBits .f32 0x3F800000#32)) E j
      = Scalar.select (Ideal.cmp .oeq (E j) (Ideal.ofBits .f32 0x00000000#32)) (Ideal.ofBits .f32 0x3F800000#32) (E j) := rfl

/-- Clamped to the range of the format. -/
theorem clamp_at (y : FVec Ideal s .f32) (j : s.Idx) :
    minimumf (broadcast s (Scalar.ofBits .f32 0x40C00000#32)) (maximumf (broadcast s (Scalar.ofBits .f32 0xC0C00000#32)) y) j = Rounding.clamp (y j) := rfl

/-- Products, quotients and absolute values, entry by entry. -/
theorem mul_at (x y : FVec Ideal s .f32) (j : s.Idx) : mulf x y j = x j * y j := rfl
theorem div_at (x y : FVec Ideal s .f32) (j : s.Idx) : divf x y j = Ideal.div (x j) (y j) := rfl
theorem abs_at (x : FVec Ideal s .f32) (j : s.Idx) : absf x j = Row.abs (x j) := rfl
theorem max_at (x y : FVec Ideal s .f32) (j : s.Idx) : maximumf x y j = max (x j) (y j) := rfl

/-- Rounded to the nearest value of the format. -/
theorem rnd_at (y : FVec Ideal s .f32) (j : s.Idx) :
    mulf (roundeven (divf y (select (cmpf .olt (absf y) (broadcast s (Scalar.ofBits .f32 0x40000000#32))) (broadcast s (Scalar.ofBits .f32 0x3F000000#32))
        (select (cmpf .olt (absf y) (broadcast s (Scalar.ofBits .f32 0x40800000#32))) (broadcast s (Scalar.ofBits .f32 0x3F800000#32)) (broadcast s (Scalar.ofBits .f32 0x40000000#32))))))
      (select (cmpf .olt (absf y) (broadcast s (Scalar.ofBits .f32 0x40000000#32))) (broadcast s (Scalar.ofBits .f32 0x3F000000#32))
        (select (cmpf .olt (absf y) (broadcast s (Scalar.ofBits .f32 0x40800000#32))) (broadcast s (Scalar.ofBits .f32 0x3F800000#32)) (broadcast s (Scalar.ofBits .f32 0x40000000#32)))) j
      = Rounding.rnd (y j) := rfl

/-- The code of a rounded number. -/
theorem codeR_at (v : FVec Ideal s .f32) (h : 1 < 32) (j : s.Idx) (x : EReal) (hx : v j = Rounding.rnd x) :
    addi (select (cmpf .olt v (broadcast s (Scalar.ofBits .f32 0x00000000#32))) (broadcast s 8#32) (broadcast s 0#32))
      (addi (addi (addi (addi (addi (addi (addi (broadcast s 0#32)
        (extui 32 (cmpf .oge (absf v) (broadcast s (Scalar.ofBits .f32 0x3F000000#32))) h))
        (extui 32 (cmpf .oge (absf v) (broadcast s (Scalar.ofBits .f32 0x3F800000#32))) h))
        (extui 32 (cmpf .oge (absf v) (broadcast s (Scalar.ofBits .f32 0x3FC00000#32))) h))
        (extui 32 (cmpf .oge (absf v) (broadcast s (Scalar.ofBits .f32 0x40000000#32))) h))
        (extui 32 (cmpf .oge (absf v) (broadcast s (Scalar.ofBits .f32 0x40400000#32))) h))
        (extui 32 (cmpf .oge (absf v) (broadcast s (Scalar.ofBits .f32 0x40800000#32))) h))
        (extui 32 (cmpf .oge (absf v) (broadcast s (Scalar.ofBits .f32 0x40C00000#32))) h)) j
      = Rounding.codeR x := by
  unfold Rounding.codeR Rounding.magR
  rw [← hx]; rfl

/-- The code by thresholds on the number itself. -/
theorem codeK_at (y : FVec Ideal s .f32) (h : 1 < 32) (j : s.Idx) :
    addi (addi (addi (addi (addi (addi (addi
        (extui 32 (cmpf .ogt (absf y) (broadcast s (Scalar.ofBits .f32 0x3E800000#32))) h)
        (extui 32 (cmpf .oge (absf y) (broadcast s (Scalar.ofBits .f32 0x3F400000#32))) h))
        (extui 32 (cmpf .ogt (absf y) (broadcast s (Scalar.ofBits .f32 0x3FA00000#32))) h))
        (extui 32 (cmpf .oge (absf y) (broadcast s (Scalar.ofBits .f32 0x3FE00000#32))) h))
        (extui 32 (cmpf .ogt (absf y) (broadcast s (Scalar.ofBits .f32 0x40200000#32))) h))
        (extui 32 (cmpf .oge (absf y) (broadcast s (Scalar.ofBits .f32 0x40600000#32))) h))
        (extui 32 (cmpf .ogt (absf y) (broadcast s (Scalar.ofBits .f32 0x40A00000#32))) h))
      (select (cmpf .olt y (broadcast s (Scalar.ofBits .f32 0x00000000#32))) (broadcast s 8#32) (broadcast s 0#32)) j
      = Rounding.codeK (y j) := rfl

end Cert.Ops

end
-- ==== Proof.KerRow.lean ====
/- What one grid point of the kernel computes over the extended reals, row by row of its block, when the second operand is
   the identity matrix. -/
module

public import proofs.«01_k».proof.Proof.Ops
public import proofs.«01_k».proof.Proof.Fill
public import Idealize.ShloMosaic.Lib.BitcastPair

@[expose] public section

set_option maxRecDepth 16384

noncomputable section

namespace Cert.KernelIdeal.Hand

open Idealize.ShloMosaic Idealize.ShloMosaic.TcCoe Idealize.SL.Sem
open Facts Shapes1.Facts₀ Shapes2.Facts₀

variable [Facts]

/-- Row `l` of the block. -/
def rowOf (x0 : Vec Ideal S256x6912 .bf16) (l : Fin 256) : Fin 6912 → EReal := fun c => x0 (ix2 l c)

variable (x0 : Vec Ideal S256x6912 .bf16) (x1 : Vec Ideal S256x256 .bf16)

/-- The identity matrix. -/
def IsEye : Prop := ∀ i k : Fin 256, x1 (ix2 i k) = if i = k then (1 : EReal) else 0

theorem eye_sum (f : Fin 256 → EReal) (i : Fin 256) : (∑ k, (if i = k then (1 : EReal) else 0) * f k) = f i := by
  simp [ite_mul]

/-- A tile transposed is the tile with its two coordinates exchanged. -/
theorem xt_at (h : IsEye x1) (t : ℕ) (ht : t < 27) (i l : Fin 256) :
    xt x0 x1 t (ix2 i l) = rowOf x0 l ⟨256 * t + i.val, by omega⟩ := by
  unfold xt eyeM
  pointwise
  rw [Finset.sum_congr rfl fun k _ => congrArg (· * x0 (ix2 l ⟨256 * (t % 27) + k.val, by omega⟩)) (h i k)]
  refine (eye_sum (fun k => x0 (ix2 l ⟨256 * (t % 27) + k.val, by omega⟩)) i).trans ?_
  refine congrArg x0 (ext2 rfl ?_)
  show 256 * (t % 27) + i.val = 256 * t + i.val
  omega

/-- The larger of two entries eight apart of a sub-block. -/
theorem mx_at (h : IsEye x1) (n : Fin 432) (i : Fin 8) (l : Fin 256) :
    mx x0 x1 n.val (ix2 i l) = max (Row.abs (rowOf x0 l (Row.at16 n ⟨i.val, by omega⟩))) (Row.abs (rowOf x0 l (Row.at16 n ⟨i.val + 8, by omega⟩))) := by
  unfold mx pairMax
  rw [Ops.max_at]
  refine congrArg₂ max ?_ ?_
  · refine congrArg Row.abs ((at2 (xt x0 x1) rfl (a' := ⟨16 * (n.val % 16) + i.val, by omega⟩) (b' := l) rfl ?_).trans ((xt_at x0 x1 h _ (by omega) _ _).trans ?_))
    · show 0 + l.val = l.val; omega
    · refine congrArg (rowOf x0 l) (Fin.ext ?_)
      show 256 * (n.val / 16) + (16 * (n.val % 16) + i.val) = 16 * n.val + i.val; omega
  · refine congrArg Row.abs ((at2 (xt x0 x1) rfl (a' := ⟨16 * (n.val % 16) + 8 + i.val, by omega⟩) (b' := l) rfl ?_).trans ((xt_at x0 x1 h _ (by omega) _ _).trans ?_))
    · show 0 + l.val = l.val; omega
    · refine congrArg (rowOf x0 l) (Fin.ext ?_)
      show 256 * (n.val / 16) + (16 * (n.val % 16) + 8 + i.val) = 16 * n.val + (i.val + 8); omega

theorem drop_at {α : Type} (v : S1x432x128.Idx → α) (n : Fin 432) (l : Fin 128) :
    shapeCast S432x128 v shapeCasts_S1x432x128_S432x128 (ix2 n l) = v (ix3 0 n l) := by pointwise

/-- A row group, read from the array. -/
theorem grp_read (M : Vec Ideal S2x3488x128 .f32) (p i : ℕ) (n : Fin 432) (l : Fin 128) :
    grp M p i (ix2 n l) = M (ix3 ⟨p % 2, by omega⟩ ⟨436 * (i % 8) + n.val, by omega⟩ l) := by
  refine (drop_at _ n l).trans (congrArg M (ext3 ?_ ?_ ?_))
  · show p % 2 + 1 * 0 = p % 2; omega
  · show 436 * (i % 8) + 1 * n.val = 436 * (i % 8) + n.val; omega
  · show 0 + 1 * l.val = l.val; omega

/-- A row group of one half of the scratch of maxima. -/
theorem grp_at (h : IsEye x1) (p : Fin 2) (i : Fin 8) (n : Fin 432) (l : Fin 128) (m : Fin 256) (hm : m.val = 128 * p.val + l.val) :
    grp (G7 x0 x1) p.val i.val (ix2 n l)
      = max (Row.abs (rowOf x0 m (Row.at16 n ⟨i.val, by omega⟩))) (Row.abs (rowOf x0 m (Row.at16 n ⟨i.val + 8, by omega⟩))) := by
  refine Eq.trans ?_ (mx_at x0 x1 h n i m)
  rw [grp_read]
  refine at2 (mx x0 x1) ?_ ?_ ?_
  · show (436 * (i.val % 8) + n.val) % 436 = n.val; omega
  · show (436 * (i.val % 8) + n.val) / 436 = i.val; omega
  · show 128 * (p.val % 2) + l.val = m.val; omega

/-- The largest absolute value of a sub-block. -/
theorem blkMax_at (h : IsEye x1) (p : Fin 2) (n : Fin 432) (l : Fin 128) (m : Fin 256) (hm : m.val = 128 * p.val + l.val) :
    blkMax (G7 x0 x1) p.val (ix2 n l) = Row.blkMax (rowOf x0 m) n := by
  unfold blkMax Row.blkMax
  rw [← Row.max_pairs]
  simp only [Ops.max_at]
  have g (i : Fin 8) := grp_at x0 x1 h p i n l m hm
  exact congrArg₂ max (congrArg₂ max (congrArg₂ max (congrArg₂ max (congrArg₂ max (congrArg₂ max (congrArg₂ max (g 0) (g 1)) (g 2)) (g 3)) (g 4)) (g 5)) (g 6)) (g 7)

/-- The largest absolute value of a row. -/
theorem rowMax_at (h : IsEye x1) (p : Fin 2) (l : Fin 128) (m : Fin 256) (hm : m.val = 128 * p.val + l.val) :
    rowMax (G7 x0 x1) p.val (ix2 0 l) = Row.rowMax (rowOf x0 m) := by
  have e {α : Type} (v : S128.Idx → α) : shapeCast S1x128 v shapeCasts_S128_S1x128 (ix2 0 l) = v (ix1 l) := by pointwise
  unfold rowMax
  rw [e]
  refine (Ops.max_r2 (blkMax (G7 x0 x1) p.val) reduces_S432x128_S128 (.inl rfl) rfl l).trans ?_
  rw [← Row.rowMax_blk]
  exact congrArg _ (funext fun n => blkMax_at x0 x1 h p n l m hm)

/-- The scale of a row. -/
theorem sG_at (h : IsEye x1) (p : Fin 2) (l : Fin 128) (m : Fin 256) (hm : m.val = 128 * p.val + l.val) :
    sG (G7 x0 x1) p.val (ix2 0 l) = Row.sG (rowOf x0 m) := by
  unfold sG
  rw [Ops.sG_at, rowMax_at x0 x1 h p l m hm]; rfl

theorem row_at {α : Type} (v : S1x128.Idx → α) (n : Fin 432) (l : Fin 128) :
    broadcastTo S432x128 v broadcasts_S1x128_S432x128 (ix2 n l) = v (ix2 0 l) := by pointwise

theorem ext_at {s : Shape} (x : FVec Ideal s .fp8e4m3) (j : s.Idx) : extf .f32 x bitsLt_fp8e4m3_f32 j = x j := rfl

/-- The scale of a sub-block. -/
theorem sB_at (h : IsEye x1) (p : Fin 2) (n : Fin 432) (l : Fin 128) (m : Fin 256) (hm : m.val = 128 * p.val + l.val) :
    sB (G7 x0 x1) p.val (ix2 n l) = Row.sB (rowOf x0 m) n := by
  unfold sB
  rw [Ops.sB_at, blkMax_at x0 x1 h p n l m hm, row_at, Ops.mul_at, sG_at x0 x1 h p l m hm]; rfl

theorem eff0_at (h : IsEye x1) (p : Fin 2) (n : Fin 432) (l : Fin 128) (m : Fin 256) (hm : m.val = 128 * p.val + l.val) :
    eff0 (G7 x0 x1) p.val (ix2 n l) = Row.sB (rowOf x0 m) n * Row.sG (rowOf x0 m) := by
  unfold eff0
  rw [Ops.mul_at, row_at, sG_at x0 x1 h p l m hm, ext_at, sB_at x0 x1 h p n l m hm]

/-- The reciprocal of the scales' product. -/
theorem recip_at (h : IsEye x1) (p : Fin 2) (n : Fin 432) (l : Fin 128) (m : Fin 256) (hm : m.val = 128 * p.val + l.val) :
    recip (G7 x0 x1) p.val (ix2 n l) = Ideal.div (Ideal.ofBits .f32 0x3F800000#32) (Row.eff (rowOf x0 m) n) := by
  unfold recip
  rw [Ops.div_at, Ops.eff_at, eff0_at x0 x1 h p n l m hm]; rfl

theorem half (m : Fin 256) : m.val / 128 < 2 := by omega

theorem G8_at (h : IsEye x1) (n : Fin 432) (m : Fin 256) :
    G8 x0 x1 (ix2 n m) = Ideal.div (Ideal.ofBits .f32 0x3F800000#32) (Row.eff (rowOf x0 m) n) :=
  recip_at x0 x1 h ⟨m.val / 128, half m⟩ n ⟨m.val % 128, by omega⟩ m (by show m.val = 128 * (m.val / 128) + m.val % 128; omega)

/-- The output of sub-block scales. -/
theorem O4_at (h : IsEye x1) (n : Fin 432) (m : Fin 256) : O4 x0 x1 (ix3 0 n m) = Row.sB (rowOf x0 m) n :=
  sB_at x0 x1 h ⟨m.val / 128, half m⟩ n ⟨m.val % 128, by omega⟩ m (by show m.val = 128 * (m.val / 128) + m.val % 128; omega)

/-- The output of row scales. -/
theorem O5_at (h : IsEye x1) (m : Fin 256) : O5 x0 x1 (ix3 0 0 m) = Row.sG (rowOf x0 m) :=
  sG_at x0 x1 h ⟨m.val / 128, half m⟩ ⟨m.val % 128, by omega⟩ m (by show m.val = 128 * (m.val / 128) + m.val % 128; omega)

theorem G6_at (h : IsEye x1) (c : Fin 6912) (m : Fin 256) : G6 x0 x1 (ix2 c m) = rowOf x0 m c := by
  refine (xt_at x0 x1 h (c.val / 256) (by omega) ⟨c.val % 256, by omega⟩ m).trans (congrArg (rowOf x0 m) (Fin.ext ?_))
  show 256 * (c.val / 256) + c.val % 256 = c.val; omega

theorem spread_at {α : Type} (v : S1x256.Idx → α) (i : Fin 16) (m : Fin 256) :
    broadcastTo S16x256 v broadcasts_S1x256_S16x256 (ix2 i m) = v (ix2 0 m) := by pointwise

/-- A piece of a tile, read from the arrays. -/
theorem piece_read (T : Vec Ideal S6912x256 .f32) (R : Vec Ideal S432x256 .f32) (t k : ℕ) (i : Fin 16) (m : Fin 256) :
    piece T R t k (ix2 i m) = ((T (ix2 ⟨256 * (t % 27) + 16 * (k % 16) + i.val, by omega⟩ m) : EReal) * R (ix2 ⟨16 * (t % 27) + k % 16, by omega⟩ m) : EReal) := by
  unfold piece
  rw [Ops.mul_at, spread_at]
  refine congrArg₂ (fun a b : EReal => a * b) (congrArg T (ext2 ?_ ?_)) (congrArg R (ext2 ?_ ?_))
  · show 256 * (t % 27) + 16 * (k % 16) + 1 * i.val = 256 * (t % 27) + 16 * (k % 16) + i.val; omega
  · show 0 + 1 * m.val = m.val; omega
  · show 16 * (t % 27) + k % 16 + 1 * 0 = 16 * (t % 27) + k % 16; omega
  · show 0 + 1 * m.val = m.val; omega

/-- Sixteen arrays, one above the other. -/
theorem stack_at (f : ℕ → FVec Ideal S16x256 .f32) (h) (i m : Fin 256) :
    concatenate S256x256 0 (List.ofFn fun k : Fin 16 => (⟨S16x256, f k.val⟩ : (s : Shape) × (s.Idx → EReal))) h (ix2 i m)
      = f (i.val / 16) (ix2 ⟨i.val % 16, by omega⟩ m) := by
  refine concatenate_ofFn_apply 0 (fun k : Fin 16 => f k.val) h rfl 16 rfl _ ⟨i.val / 16, by omega⟩ rfl _ rfl fun b hb => ?_
  match b with
  | ⟨0, _⟩ => exact absurd rfl hb
  | ⟨1, _⟩ => rfl

/-- An entry of a tile, scaled: the quotient by the scales' product. -/
theorem tile_at (h : IsEye x1) (t : ℕ) (ht : t < 27) (i m : Fin 256) (c : Fin 6912) (hc : c.val = 256 * t + i.val) :
    tile (G6 x0 x1) (G8 x0 x1) t (ix2 i m) = Ideal.div (rowOf x0 m c) (Row.eff (rowOf x0 m) (Row.blk c)) := by
  refine (stack_at (piece (G6 x0 x1) (G8 x0 x1) t) _ i m).trans ?_
  rw [← Row.mul_recip, ← G6_at x0 x1 h, ← G8_at x0 x1 h, piece_read]
  refine congrArg₂ (fun a b : EReal => a * b) (congrArg (G6 x0 x1) (ext2 ?_ rfl)) (congrArg (G8 x0 x1) (ext2 ?_ rfl))
  · show 256 * (t % 27) + 16 * (i.val / 16 % 16) + i.val % 16 = c.val; omega
  · show 16 * (t % 27) + i.val / 16 % 16 = c.val / 16; omega

/-! ## Codes -/

/-- The four bits of an entry's code before the sign of zero is dropped. -/
def kOf (r : Fin 6912 → EReal) (c : Fin 6912) : BitVec 4 := Classical.choose (Rounding.code_clamp (Ideal.div (r c) (Row.eff r (Row.blk c))))
theorem kOf_K (r : Fin 6912 → EReal) (c : Fin 6912) : Rounding.codeK (Row.y r c) = (kOf r c).setWidth 32 :=
  (Classical.choose_spec (Rounding.code_clamp (Ideal.div (r c) (Row.eff r (Row.blk c))))).1
theorem kOf_R (r : Fin 6912 → EReal) (c : Fin 6912) : Rounding.codeR (Row.y r c) = (Nibble.fix (kOf r c)).setWidth 32 :=
  (Classical.choose_spec (Rounding.code_clamp (Ideal.div (r c) (Row.eff r (Row.blk c))))).2

/-- A byte is two codes. -/
theorem byte_eq (r : Fin 6912 → EReal) (q : Fin 3456) :
    Row.byte r q = Nibble.fix (kOf r ⟨2 * q.val + 1, by omega⟩) ++ Nibble.fix (kOf r ⟨2 * q.val, by omega⟩) := by
  unfold Row.byte
  rw [kOf_R, kOf_R, Nibble.pair]

theorem codes_at (h : IsEye x1) (t : ℕ) (ht : t < 27) (i m : Fin 256) (c : Fin 6912) (hc : c.val = 256 * t + i.val) :
    codes (clamp (tile (G6 x0 x1) (G8 x0 x1) t)) (ix2 i m) = (kOf (rowOf x0 m) c).setWidth 32 := by
  rw [← kOf_K]
  unfold codes Row.y
  rw [Ops.codeK_at]
  unfold clamp
  rw [Ops.clamp_at, tile_at x0 x1 h t ht i m c hc]

/-- A word holds the codes of eight rows. -/
theorem words_at (q : IVec S256x256 32) (w : Fin 32) (m : Fin 256) (k : Fin 8 → BitVec 4)
    (hk : ∀ e : Fin 8, q (ix2 ⟨8 * w.val + e.val, by omega⟩ m) = (k e).setWidth 32) : words q (ix2 w m) = Nibble.word k := by
  rw [← Nibble.sum_word]
  unfold words
  pointwise
  refine congrArg (fun f => Finset.univ.fold IntOp.addi 0#32 f) (funext fun e : Fin 8 => ?_)
  rw [← hk e]
  exact congrArg (fun c => IntOp.shli .vector (q (ix2 c m)) _) (Fin.ext (by show w.val * 8 + e.val = 8 * w.val + e.val; omega))

theorem noNegZero_at (w : IVec S32x256 32) (j : S32x256.Idx) : noNegZero w j = Nibble.fixW 2004318071#32 (w j) := rfl

/-- A row of bytes is a quarter of a row of words. -/
theorem bitcast_at (w : IVec S32x256 32) (b : Fin 128) (m : Fin 256) :
    bitcast S128x256 8 w bitcasts_S32x256_w32_S128x256_w8 (ix2 b m) = (w (ix2 ⟨b.val / 4, by omega⟩ m)).extractLsb' (8 * (b.val % 4)) 8 := by
  have hr : S128x256.row (ix2 b m) = b.val := rfl
  apply BitVec.eq_of_getLsbD_eq
  intro i hi
  rw [bitcast_getLsbD w _ _ i hi (by decide), BitVec.getLsbD_extractLsb']
  have ep : (S128x256.row (ix2 b m) * 8 + i) / 32 = b.val / 4 := by rw [hr]; omega
  have eq : (S128x256.row (ix2 b m) * 8 + i) % 32 = 8 * (b.val % 4) + i := by rw [hr]; omega
  rw [eq, show (decide (i < 8)) = true from decide_eq_true hi, Bool.true_and]
  refine congrArg (fun x : BitVec 32 => x.getLsbD _) (congrArg w (ext2 ?_ ?_))
  · exact (Shape.Bitcasts.srcIdx_row _ _ _ _ ⟨0, Nat.zero_lt_two⟩ rfl).trans ep
  · exact Shape.Bitcasts.srcIdx_other _ _ _ _ ⟨1, Nat.one_lt_two⟩ (by show ¬ 1 + 2 = 2; omega)

theorem bytes_at (w : IVec S32x256 32) (m : Fin 256) (b : Fin 128) :
    bytes w (ix2 m b) = (w (ix2 ⟨b.val / 4, by omega⟩ m)).extractLsb' (8 * (b.val % 4)) 8 := by
  rw [← bitcast_at]
  unfold bytes
  pointwise

/-- The output of packed codes. -/
theorem O3_at (h : IsEye x1) (m : Fin 256) (q : Fin 3456) : O3 x0 x1 (ix2 m q) = Row.byte (rowOf x0 m) q := by
  have ht : q.val / 128 < 27 := by omega
  show pay3 (G6 x0 x1) (G8 x0 x1) (q.val / 128) (ix2 m ⟨q.val % 128, by omega⟩) = _
  unfold pay3
  rw [bytes_at, noNegZero_at, byte_eq,
    words_at _ _ m (fun e : Fin 8 => kOf (rowOf x0 m) ⟨256 * (q.val / 128) + (8 * (q.val % 128 / 4) + e.val), by omega⟩)
      (fun e => codes_at x0 x1 h _ ht _ m _ rfl), Nibble.fixW_word]
  refine (Nibble.byte_word _ ⟨q.val % 128 % 4, by omega⟩).trans ?_
  refine congrArg₂ (fun a b : BitVec 4 => (a ++ b : BitVec 8)) ?_ ?_
  · refine congrArg (fun c => Nibble.fix (kOf (rowOf x0 m) c)) (Fin.ext ?_)
    show 256 * (q.val / 128) + (8 * (q.val % 128 / 4) + (2 * (q.val % 128 % 4) + 1)) = 2 * q.val + 1; omega
  · refine congrArg (fun c => Nibble.fix (kOf (rowOf x0 m) c)) (Fin.ext ?_)
    show 256 * (q.val / 128) + (8 * (q.val % 128 / 4) + 2 * (q.val % 128 % 4)) = 2 * q.val; omega

end Cert.KernelIdeal.Hand

end
-- ==== Proof.KerVal.lean ====
/- What the kernel's three results hold after the run, over the extended reals: each row's codes and scales. -/
module

public import proofs.«01_k».proof.Proof.Run
public import proofs.«01_k».proof.Proof.KerRow
public import Idealize.ShloMosaic.Lib.Claim
public import Idealize.ShloMosaic.Lib.Pipeline.ValueKit
public import Idealize.ShloMosaic.Lib.Pointwise

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal.Gen

variable (m : (ℓ : Loc nD τ sig) → Buf (Elt Ideal) ℓ) (ρ : Dev nD → PrngReg) (c : Dev nD)

/-- Row `s` of batch entry `b` of the argument. -/
def row (a : Vec Ideal S16x2048x6912 .bf16) (b : Fin 16) (s : Fin 2048) : Fin 6912 → EReal := fun k => a (ix3 b s k)

/-! ## The call's operands -/

theorem V_v0 : V m c main_v0 = shapeCast S32768x6912 (m ((c : Thread nD τ).loc main_arg0)) shapeCasts_S16x2048x6912_S32768x6912 := by
  show StableHlo.after hostOps0 (fun b => m (c, b)) (Proc.devRef .tc main_v0) = _
  unfold hostOps0
  after_results
  rfl

theorem V_v6 : V m c main_v6 = uitofp (F := Ideal) .bf16 (cmpi .eq (addi (iotaInDim S256x256 32 0) (broadcastInDim S256x256 ![] bcast_S_S256x256 (constantI S_ 32 0#32))) (iotaInDim S256x256 32 1)) := by
  show StableHlo.after hostOps0 (fun b => m (c, b)) (Proc.devRef .tc main_v6) = _
  unfold hostOps0
  after_results

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel
theorem index3 : ∀ t : Fin cfg0.N, win0_3.index t = ![t.val / 8, 0, t.val % 8] := by decide +kernel
theorem index4 : ∀ t : Fin cfg0.N, win0_4.index t = ![t.val, 0, 0] := by decide +kernel

theorem tN (t : Fin cfg0.N) : t.val < 128 := N_0 ▸ t.isLt

/-- The rows of the first operand, read from the argument. -/
theorem flat_at {α : Type} (v : S16x2048x6912.Idx → α) (b : Fin 16) (s : Fin 2048) (r : Fin 32768) (hr : r.val = 2048 * b.val + s.val) (k : Fin 6912) :
    shapeCast S32768x6912 v shapeCasts_S16x2048x6912_S32768x6912 (ix2 r k) = v (ix3 b s k) := by
  refine congrArg v (Shape.reshapeEquiv_eq_of_vals _ _ _ _ _ (rowMajor_val3 _ (2048 * 6912) 6912 rfl rfl) (rowMajor_val2 _ 6912 rfl) ?_)
  show b.val * _ + s.val * _ + k.val = r.val * _ + k.val
  omega

/-- A row of a block is a row of the argument. -/
theorem block_row (t : Fin cfg0.N) (l : Fin 256) (b : Fin 16) (s : Fin 2048) (h : 256 * t.val + l.val = 2048 * b.val + s.val) :
    rowOf (iblk m c 0 t) l = row (m ((c : Thread nD τ).loc main_arg0)) b s := by
  have ht := tN t
  funext k
  unfold rowOf row iblk
  blk_simp
  have e : (win0_0.blk t).view.emb (ix2 l k) = ix2 (⟨256 * t.val + l.val, by omega⟩ : Fin 32768) k :=
    ext2 (by blk_simp; rw [index0]; show t.val * 256 + l.val = 256 * t.val + l.val; omega) (by blk_simp; rw [index0]; show 0 * 6912 + k.val = k.val; omega)
  rw [V_v0, e]
  exact flat_at _ b s _ h k

/-- The second operand is the unit matrix. -/
theorem block_eye (t : Fin cfg0.N) : IsEye (iblk m c 1 t) := by
  intro i k
  unfold iblk
  blk_simp
  have e : (win0_1.blk t).view.emb (ix2 i k) = ix2 i k :=
    ext2 (by blk_simp; rw [index1]; show 0 * 256 + i.val = i.val; omega) (by blk_simp; rw [index1]; show 0 * 256 + k.val = k.val; omega)
  rw [V_v6, e]
  pointwise
  by_cases hik : i = k
  · subst hik
    rw [if_pos rfl]
    have e1 : IntOp.cmpi .eq (IntOp.addi (BitVec.ofNat 32 i.val) 0#32) (BitVec.ofNat 32 i.val) = 1#1 := by simp [IntOp.cmpi, IntOp.addi]
    rw [e1]
    show ((1#1 : BitVec 1).toNat : EReal) = 1
    simp
  · rw [if_neg hik]
    have e1 : IntOp.cmpi .eq (IntOp.addi (BitVec.ofNat 32 i.val) 0#32) (BitVec.ofNat 32 k.val) = 0#1 := by
      have hne : BitVec.ofNat 32 i.val ≠ BitVec.ofNat 32 k.val := fun h => hik (Fin.ext (by
        have := congrArg BitVec.toNat h; simp only [BitVec.toNat_ofNat] at this; omega))
      have hb : (BitVec.ofNat 32 i.val == BitVec.ofNat 32 k.val) = false := beq_eq_false_iff_ne.mpr hne
      simp only [IntOp.cmpi, IntOp.addi, BitVec.add_zero, hb]
      rfl
    rw [e1]
    show ((0#1 : BitVec 1).toNat : EReal) = 0
    simp

/-! ## The call's results -/

/-- The codes, two to a byte: row `r` is row `r % 2048` of batch entry `r / 2048`. -/
def W2 (a : Vec Ideal S16x2048x6912 .bf16) : Vec Ideal S32768x3456 .i8 := fun j =>
  Row.byte (row a ⟨(j 0).val / 2048, Nat.div_lt_of_lt_mul (j 0).isLt⟩ ⟨(j 0).val % 2048, Nat.mod_lt _ (by decide)⟩) (j 1)
/-- The scales of the sub-blocks, the rows of a batch entry along the last axis. -/
def W3 (a : Vec Ideal S16x2048x6912 .bf16) : Vec Ideal S16x432x2048 .fp8e4m3 := fun j => Row.sB (row a (j 0) (j 2)) (j 1)
/-- The scales of the rows, 256 to a block. -/
def W4 (a : Vec Ideal S16x2048x6912 .bf16) : Vec Ideal S128x1x256 .f32 := fun j =>
  Row.sG (row a ⟨(j 0).val / 8, Nat.div_lt_of_lt_mul (j 0).isLt⟩ ⟨256 * ((j 0).val % 8) + (j 2).val, by have := (j 2).isLt; have : (j 2).val < 256 := this; omega⟩)

/-- Bytes of one row. -/
theorem byte_congr {r r' : Fin 6912 → EReal} {q q' : Fin 3456} (h : r = r') (hq : q.val = q'.val) : Row.byte r q = Row.byte r' q' := by
  obtain rfl := h; obtain rfl := Fin.ext hq; rfl
theorem sB_congr {r r' : Fin 6912 → EReal} {n n' : Fin 432} (h : r = r') (hn : n.val = n'.val) : Row.sB r n = Row.sB r' n' := by
  obtain rfl := h; obtain rfl := Fin.ext hn; rfl

/-- Where a result's block lies in its array. -/
theorem emb2 (t : Fin cfg0.N) (y0 : Fin 256) (y1 : Fin 3456) :
    (win0_2.blk t).view.emb (ix2 y0 y1) = ix2 (⟨256 * t.val + y0.val, by have := tN t; omega⟩ : Fin 32768) y1 :=
  ext2 (by blk_simp; rw [index2]; show t.val * 256 + y0.val = 256 * t.val + y0.val; omega) (by blk_simp; rw [index2]; show 0 * 3456 + y1.val = y1.val; omega)
theorem emb3 (t : Fin cfg0.N) (y0 : Fin 1) (y1 : Fin 432) (y2 : Fin 256) :
    (win0_3.blk t).view.emb (ix3 y0 y1 y2)
      = ix3 (⟨t.val / 8, by have := tN t; omega⟩ : Fin 16) y1 (⟨256 * (t.val % 8) + y2.val, by omega⟩ : Fin 2048) :=
  ext3 (by blk_simp; rw [index3]; rfl) (by blk_simp; rw [index3]; show 0 * 432 + y1.val = y1.val; omega)
    (by blk_simp; rw [index3]; show t.val % 8 * 256 + y2.val = 256 * (t.val % 8) + y2.val; omega)
theorem emb4 (t : Fin cfg0.N) (y0 : Fin 1) (y1 : Fin 1) (y2 : Fin 256) :
    (win0_4.blk t).view.emb (ix3 y0 y1 y2) = ix3 (⟨t.val, tN t⟩ : Fin 128) y1 y2 :=
  ext3 (by blk_simp; rw [index4]; rfl) (by blk_simp; rw [index4]; rfl)
    (by blk_simp; rw [index4]; show 0 * 256 + y2.val = y2.val; omega)

/-- The call's first result: the codes. -/
theorem final2 : (dats m 0 c).arrAt 2 cfg0.N = W2 (m ((c : Thread nD τ).loc main_arg0)) := by
  refine (dats m 0 c).arrAt_eq_of_covers 2 _ (by decide +kernel) fun t _ y => ?_
  have ht := tN t
  blk_simp
  rw [after0_2]
  idx_vars y
  refine ((O3_at _ _ (block_eye m c t) y0 y1).trans ?_).trans (congrArg (W2 _) (emb2 t y0 y1)).symm
  refine byte_congr (block_row m c t y0 _ _ ?_) rfl
  show 256 * t.val + y0.val = 2048 * ((256 * t.val + y0.val) / 2048) + (256 * t.val + y0.val) % 2048
  omega

/-- The call's second result: the scales of the sub-blocks. -/
theorem final3 : (dats m 0 c).arrAt 3 cfg0.N = W3 (m ((c : Thread nD τ).loc main_arg0)) := by
  refine (dats m 0 c).arrAt_eq_of_covers 3 _ (by decide +kernel) fun t _ y => ?_
  have ht := tN t
  blk_simp
  rw [after0_3]
  idx_vars y
  obtain rfl : y0 = 0 := Subsingleton.elim _ _
  refine ((O4_at _ _ (block_eye m c t) y1 y2).trans ?_).trans (congrArg (W3 _) (emb3 t 0 y1 y2)).symm
  refine sB_congr (block_row m c t y2 _ _ ?_) rfl
  show 256 * t.val + y2.val = 2048 * (t.val / 8) + (256 * (t.val % 8) + y2.val)
  omega

/-- The call's third result: the scales of the rows. -/
theorem final4 : (dats m 0 c).arrAt 4 cfg0.N = W4 (m ((c : Thread nD τ).loc main_arg0)) := by
  refine (dats m 0 c).arrAt_eq_of_covers 4 _ (by decide +kernel) fun t _ y => ?_
  have ht := tN t
  blk_simp
  rw [after0_4]
  idx_vars y
  obtain rfl : y0 = 0 := Subsingleton.elim _ _
  obtain rfl : y1 = 0 := Subsingleton.elim _ _
  refine ((O5_at _ _ (block_eye m c t) y2).trans ?_).trans (congrArg (W4 _) (emb4 t 0 0 y2)).symm
  refine congrArg Row.sG (block_row m c t y2 _ _ ?_)
  show 256 * t.val + y2.val = 2048 * (t.val / 8) + (256 * (t.val % 8) + y2.val)
  omega

/-! ## The program's results -/

/-- The three results, as functions of the argument. -/
def Q8 (a : Vec Ideal S16x2048x6912 .bf16) : Vec Ideal S16x2048x3456 .i8 := fun j => Row.byte (row a (j 0) (j 1)) (j 2)
def Q9 (a : Vec Ideal S16x2048x6912 .bf16) : Vec Ideal S16x2048x432 .fp8e4m3 := fun j => Row.sB (row a (j 0) (j 1)) (j 2)
def Q10 (a : Vec Ideal S16x2048x6912 .bf16) : Vec Ideal S16x2048 .f32 := fun j => Row.sG (row a (j 0) (j 1))

theorem row_congr (a : Vec Ideal S16x2048x6912 .bf16) {b b' : Fin 16} {s s' : Fin 2048} (hb : b.val = b'.val) (hs : s.val = s'.val) : row a b s = row a b' s' := by
  obtain rfl := Fin.ext hb; obtain rfl := Fin.ext hs; rfl

theorem Q8_eq (a : Vec Ideal S16x2048x6912 .bf16) : shapeCast S16x2048x3456 (W2 a) shapeCasts_S32768x3456_S16x2048x3456 = Q8 a := by
  funext j
  idx_vars j
  have e : shapeCast S16x2048x3456 (W2 a) shapeCasts_S32768x3456_S16x2048x3456 (ix3 j0 j1 j2) = W2 a (ix2 ⟨2048 * j0.val + j1.val, by omega⟩ j2) :=
    congrArg (W2 a) (Shape.reshapeEquiv_eq_of_vals _ _ _ _ _ (rowMajor_val2 _ 3456 rfl) (rowMajor_val3 _ (2048 * 3456) 3456 rfl rfl) (by
      show (2048 * j0.val + j1.val) * _ + j2.val = j0.val * _ + j1.val * _ + j2.val; omega))
  refine e.trans (byte_congr (row_congr a ?_ ?_) rfl)
  · show (2048 * j0.val + j1.val) / 2048 = j0.val; omega
  · show (2048 * j0.val + j1.val) % 2048 = j1.val; omega

theorem Q9_eq (a : Vec Ideal S16x2048x6912 .bf16) : transpose S16x2048x432 [0, 2, 1] (W3 a) transposes_S16x432x2048_S16x2048x432_0_2_1 = Q9 a := by
  have g {α : Type} (v : S16x432x2048.Idx → α) (b : Fin 16) (s : Fin 2048) (n : Fin 432) :
      transpose S16x2048x432 [0, 2, 1] v transposes_S16x432x2048_S16x2048x432_0_2_1 (ix3 b s n) = v (ix3 b n s) := by pointwise
  funext j
  idx_vars j
  exact g (W3 a) j0 j1 j2

theorem Q10_eq (a : Vec Ideal S16x2048x6912 .bf16) : shapeCast S16x2048 (W4 a) shapeCasts_S128x1x256_S16x2048 = Q10 a := by
  funext j
  idx_vars j
  have e : shapeCast S16x2048 (W4 a) shapeCasts_S128x1x256_S16x2048 (ix2 j0 j1) = W4 a (ix3 ⟨8 * j0.val + j1.val / 256, by omega⟩ 0 ⟨j1.val % 256, by omega⟩) :=
    congrArg (W4 a) (Shape.reshapeEquiv_eq_of_vals _ _ _ _ _ (rowMajor_val3 _ 256 256 rfl rfl) (rowMajor_val2 _ 2048 rfl) (by
      show (8 * j0.val + j1.val / 256) * 256 + 0 * 256 + j1.val % 256 = j0.val * 2048 + j1.val; omega))
  refine e.trans (congrArg Row.sG (row_congr a ?_ ?_))
  · show (8 * j0.val + j1.val / 256) / 8 = j0.val; omega
  · show 256 * ((8 * j0.val + j1.val / 256) % 8) + j1.val % 256 = j1.val; omega

theorem arr (w : Fin cfg0.W) : Pipeline.withArrays spec0 c (V0 m c) (fun w => (dats m 0 c).arrAt w cfg0.N) (Proc.devRef .tc (Pipeline.arrRef spec0 w)) = (dats m 0 c).arrAt w cfg0.N :=
  Pipeline.withArrays_arr spec0 (by decide) c (V0 m c) _ w

theorem tail8 : Pipeline.afterTail₀ cfgs (dats m) 0 (V0 m) [hostOps1] c main_v8 = Q8 (m ((c : Thread nD τ).loc main_arg0)) := by
  rw [← Q8_eq, ← final2]
  show StableHlo.after hostOps1 _ (Proc.devRef .tc main_v8) = _
  unfold hostOps1
  after_results
  exact congrArg (fun v => shapeCast S16x2048x3456 v shapeCasts_S32768x3456_S16x2048x3456) (arr m c 2)

theorem tail9 : Pipeline.afterTail₀ cfgs (dats m) 0 (V0 m) [hostOps1] c main_v9 = Q9 (m ((c : Thread nD τ).loc main_arg0)) := by
  rw [← Q9_eq, ← final3]
  show StableHlo.after hostOps1 _ (Proc.devRef .tc main_v9) = _
  unfold hostOps1
  after_results
  exact congrArg (fun v => transpose S16x2048x432 [0, 2, 1] v transposes_S16x432x2048_S16x2048x432_0_2_1) (arr m c 3)

theorem tail10 : Pipeline.afterTail₀ cfgs (dats m) 0 (V0 m) [hostOps1] c main_v10 = Q10 (m ((c : Thread nD τ).loc main_arg0)) := by
  rw [← Q10_eq, ← final4]
  show StableHlo.after hostOps1 _ (Proc.devRef .tc main_v10) = _
  unfold hostOps1
  after_results
  exact congrArg (fun v => shapeCast S16x2048 v shapeCasts_S128x1x256_S16x2048) (arr m c 4)

/-- Every execution ends with the three results at the codes and scales of the argument's rows, the argument unchanged. -/
theorem run_values : θ_run defs (onTc (τ := τ) (main (F := Ideal))) ⟨m, fun _ => 0, ρ⟩ (fun r => ∀ c : Dev nD,
      r.2.mem ((c : Thread nD τ).loc main_v8) = Q8 (m ((c : Thread nD τ).loc main_arg0))
      ∧ r.2.mem ((c : Thread nD τ).loc main_v9) = Q9 (m ((c : Thread nD τ).loc main_arg0))
      ∧ r.2.mem ((c : Thread nD τ).loc main_v10) = Q10 (m ((c : Thread nD τ).loc main_arg0))
      ∧ r.2.mem ((c : Thread nD τ).loc main_arg0) = m ((c : Thread nD τ).loc main_arg0)) :=
  (θ_run defs _ _).mono (fun _ h c =>
    ⟨((h c).2 main_v8 (Pipeline.mem_restRefs_of main_v8 (by decide) (by decide))).trans (tail8 m c),
      ((h c).2 main_v9 (Pipeline.mem_restRefs_of main_v9 (by decide) (by decide))).trans (tail9 m c),
      ((h c).2 main_v10 (Pipeline.mem_restRefs_of main_v10 (by decide) (by decide))).trans (tail10 m c),
      ((h c).2 main_arg0 (Pipeline.mem_restRefs_of main_arg0 (by decide) (by decide))).trans (W_main_arg0 m (dats m) c)⟩) (run_main m ρ)

end Cert.KernelIdeal.Hand

end
-- ==== Proof.RefRow.lean ====
/- What the reference computes, row by row. -/
module

public import proofs.«01_k».proof.Proof.Ops
public import proofs.«01_k».proof.Proof.Gen.ReferenceIdeal.Value
public import Idealize.ShloMosaic.Lib.Pointwise

@[expose] public section

set_option maxRecDepth 16384

noncomputable section

namespace Cert.ReferenceIdeal.Hand

open Idealize.ShloMosaic Cert.ReferenceIdeal.Gen

/-- Row `s` of batch `b`. -/
def row (a : Vec Ideal S16x2048x6912 .bf16) (b : Fin 16) (s : Fin 2048) : Fin 6912 → EReal := fun c => a (ix3 b s c)

variable (a : Vec Ideal S16x2048x6912 .bf16)

/-- The sub-blocks of a row. -/
theorem blocks_at {α : Type} (v : S16x2048x6912.Idx → α) (b : Fin 16) (s : Fin 2048) (n : Fin 432) (i : Fin 16) :
    shapeCast S16x2048x432x16 v shapeCasts_S16x2048x6912_S16x2048x432x16 (ix4 b s n i) = v (ix3 b s (Row.at16 n i)) := by
  refine congrArg v (Shape.reshapeEquiv_eq_of_vals _ _ _ _ _ (rowMajor_val3 _ (2048 * 6912) 6912 rfl rfl) (rowMajor_val4 _ (2048 * 6912) 6912 16 rfl rfl rfl) ?_)
  show b.val * _ + s.val * _ + (16 * n.val + i.val) = b.val * _ + s.val * _ + n.val * 16 + i.val
  omega

/-- One number for each row, read at a sub-block of the row. -/
theorem rows_at {α : Type} (v : S16x2048x1.Idx → α) (b : Fin 16) (s : Fin 2048) (n : Fin 432) :
    broadcastTo S16x2048x432 v broadcasts_S16x2048x1_S16x2048x432 (ix3 b s n) = v (ix3 b s 0) := by
  pointwise
theorem col_at {α : Type} (v : S16x2048.Idx → α) (b : Fin 16) (s : Fin 2048) :
    shapeCast S16x2048x1 v shapeCasts_S16x2048_S16x2048x1 (ix3 b s 0) = v (ix2 b s) := by
  pointwise

/-- One number for each sub-block, read at an entry of the sub-block. -/
theorem blk_at {α : Type} (v : S16x2048x432.Idx → α) (b : Fin 16) (s : Fin 2048) (n : Fin 432) (i : Fin 16) :
    broadcastTo S16x2048x432x16 (shapeCast S16x2048x432x1 v shapeCasts_S16x2048x432_S16x2048x432x1) broadcasts_S16x2048x432x1_S16x2048x432x16 (ix4 b s n i) = v (ix3 b s n) := by
  pointwise

/-- The pairs of a row. -/
theorem pairs_at {α : Type} (v : S16x2048x432x16.Idx → α) (b : Fin 16) (s : Fin 2048) (q : Fin 3456) (e : Fin 2) :
    shapeCast S16x2048x3456x2 v shapeCasts_S16x2048x432x16_S16x2048x3456x2 (ix4 b s q e)
      = v (ix4 b s ⟨(2 * q.val + e.val) / 16, by omega⟩ ⟨(2 * q.val + e.val) % 16, by omega⟩) := by
  refine congrArg v (Shape.reshapeEquiv_eq_of_vals _ _ _ _ _ (rowMajor_val4 _ (2048 * 6912) 6912 16 rfl rfl rfl) (rowMajor_val4 _ (2048 * 6912) 6912 2 rfl rfl rfl) ?_)
  show b.val * _ + s.val * _ + (2 * q.val + e.val) / 16 * 16 + (2 * q.val + e.val) % 16 = b.val * _ + s.val * _ + q.val * 2 + e.val
  omega
theorem even_at {α : Type} (v : S16x2048x3456x2.Idx → α) (b : Fin 16) (s : Fin 2048) (q : Fin 3456) :
    shapeCast S16x2048x3456 (extractStridedSlice S16x2048x3456x1 ![0, 0, 0, 0] v slices_S16x2048x3456x2_o0_0_0_0_S16x2048x3456x1) shapeCasts_S16x2048x3456x1_S16x2048x3456 (ix3 b s q)
      = v (ix4 b s q 0) := by
  pointwise
theorem odd_at {α : Type} (v : S16x2048x3456x2.Idx → α) (b : Fin 16) (s : Fin 2048) (q : Fin 3456) :
    shapeCast S16x2048x3456 (extractStridedSlice S16x2048x3456x1 ![0, 0, 0, 1] v slices_S16x2048x3456x2_o0_0_0_1_S16x2048x3456x1) shapeCasts_S16x2048x3456x1_S16x2048x3456 (ix3 b s q)
      = v (ix4 b s q 1) := by
  pointwise

/-- The scale of a row. -/
theorem scale_row (b : Fin 16) (s : Fin 2048) : k0_pay3 (F := Ideal) a (ix2 b s) = Row.sG (row a b s) := by
  have h := Ops.max_r3 (absf (extf .f32 a bitsLt_bf16_f32)) reduces_S16x2048x6912_S16x2048 (.inl rfl) rfl b s
  refine (Ops.sG_at _ _).trans ?_
  unfold Row.sG
  rw [show Row.rowMax (row a b s) = _ from h.symm]
  rfl

/-- The sub-blocks' maxima, -/
def mBlk : FVec Ideal S16x2048x432 .f32 :=
  multiReduction .maximumf [3] S16x2048x432 (absf (k0_pay4 (F := Ideal) a)) 0xFF800000#32 reduces_S16x2048x432x16_S16x2048x432 (.inl rfl) rfl
/-- what they are divided by, -/
def dBlk : FVec Ideal S16x2048x432 .f32 :=
  broadcastTo S16x2048x432 (mulf (broadcast S16x2048x1 (Scalar.ofBits .f32 0x40C00000#32)) (shapeCast S16x2048x1 (k0_pay3 (F := Ideal) a) shapeCasts_S16x2048_S16x2048x1)) broadcasts_S16x2048x1_S16x2048x432
/-- the products of the two scales, -/
def eBlk : FVec Ideal S16x2048x432 .f32 :=
  mulf (extf .f32 (k0_pay5 (F := Ideal) a) bitsLt_fp8e4m3_f32)
    (broadcastTo S16x2048x432 (shapeCast S16x2048x1 (k0_pay3 (F := Ideal) a) shapeCasts_S16x2048_S16x2048x1) broadcasts_S16x2048x1_S16x2048x432)
/-- with one in place of zero, -/
def fBlk : FVec Ideal S16x2048x432 .f32 :=
  select (cmpf .oeq (eBlk a) (broadcast S16x2048x432 (Scalar.ofBits .f32 0x00000000#32))) (broadcast S16x2048x432 (Scalar.ofBits .f32 0x3F800000#32)) (eBlk a)
/-- and the quotients. -/
def qBlk : FVec Ideal S16x2048x432x16 .f32 :=
  divf (k0_pay4 (F := Ideal) a) (broadcastTo S16x2048x432x16 (shapeCast S16x2048x432x1 (fBlk a) shapeCasts_S16x2048x432_S16x2048x432x1) broadcasts_S16x2048x432x1_S16x2048x432x16)

theorem pay4_at (b : Fin 16) (s : Fin 2048) (n : Fin 432) (i : Fin 16) : k0_pay4 (F := Ideal) a (ix4 b s n i) = row a b s (Row.at16 n i) :=
  blocks_at (extf .f32 a bitsLt_bf16_f32 : FVec Ideal S16x2048x6912 .f32) b s n i

theorem mBlk_at (b : Fin 16) (s : Fin 2048) (n : Fin 432) : mBlk a (ix3 b s n) = Row.blkMax (row a b s) n := by
  refine (Ops.max_r4 (absf (k0_pay4 (F := Ideal) a)) reduces_S16x2048x432x16_S16x2048x432 (.inl rfl) rfl b s n).trans ?_
  unfold Row.blkMax
  refine congrArg _ (funext fun i => ?_)
  rw [Ops.abs_at, pay4_at]

theorem dBlk_at (b : Fin 16) (s : Fin 2048) (n : Fin 432) : dBlk a (ix3 b s n) = Ideal.ofBits .f32 0x40C00000#32 * Row.sG (row a b s) := by
  unfold dBlk
  rw [rows_at, Ops.mul_at, col_at, scale_row]; rfl

theorem pay5_eq : k0_pay5 (F := Ideal) a = truncf .fp8e4m3 (minimumf (divf (mBlk a) (dBlk a)) (broadcast S16x2048x432 (Scalar.ofBits .f32 0x43E00000#32))) bitsLt_fp8e4m3_f32 := rfl

/-- The scale of a sub-block. -/
theorem scale_blk (b : Fin 16) (s : Fin 2048) (n : Fin 432) : k0_pay5 (F := Ideal) a (ix3 b s n) = Row.sB (row a b s) n := by
  rw [pay5_eq, Ops.sB_at, mBlk_at, dBlk_at]; rfl

theorem ext_at {s : Shape} (x : FVec Ideal s .fp8e4m3) (j : s.Idx) : extf .f32 x bitsLt_fp8e4m3_f32 j = x j := rfl

theorem eBlk_at (b : Fin 16) (s : Fin 2048) (n : Fin 432) : eBlk a (ix3 b s n) = Row.sB (row a b s) n * Row.sG (row a b s) := by
  unfold eBlk
  rw [Ops.mul_at, ext_at, rows_at, col_at, scale_row, scale_blk]

theorem fBlk_at (b : Fin 16) (s : Fin 2048) (n : Fin 432) : fBlk a (ix3 b s n) = Row.eff (row a b s) n := by
  unfold fBlk
  rw [Ops.eff_at, eBlk_at]; rfl

theorem qBlk_at (b : Fin 16) (s : Fin 2048) (n : Fin 432) (i : Fin 16) :
    qBlk a (ix4 b s n i) = Ideal.div (row a b s (Row.at16 n i)) (Row.eff (row a b s) n) := by
  unfold qBlk
  rw [Ops.div_at, blk_at, pay4_at, fBlk_at]

theorem pay6_eq : k0_pay6 (F := Ideal) a = minimumf (broadcast S16x2048x432x16 (Scalar.ofBits .f32 0x40C00000#32)) (maximumf (broadcast S16x2048x432x16 (Scalar.ofBits .f32 0xC0C00000#32)) (qBlk a)) := rfl

/-- The clamped quotient of an entry. -/
theorem quot (b : Fin 16) (s : Fin 2048) (n : Fin 432) (i : Fin 16) : k0_pay6 (F := Ideal) a (ix4 b s n i) = Row.y (row a b s) (Row.at16 n i) := by
  rw [pay6_eq, Ops.clamp_at, qBlk_at]
  unfold Row.y
  rw [show Row.blk (Row.at16 n i) = n from Fin.ext (by show (16 * n.val + i.val) / 16 = n.val; omega)]

/-- The code of an entry. -/
theorem code (b : Fin 16) (s : Fin 2048) (q : Fin 3456) (e : Fin 2) :
    k0_pay9 (k0_pay6 (F := Ideal) a) (k0_pay7 a) (k0_pay8 a) (Scalar.ofBits .f32 0x3F800000#32) (Scalar.ofBits .f32 0x40000000#32) (ix4 b s q e)
      = Rounding.codeR (Row.y (row a b s) ⟨2 * q.val + e.val, by omega⟩) := by
  refine (pairs_at _ b s q e).trans ((Ops.codeR_at _ _ _ _ (Ops.rnd_at (k0_pay6 (F := Ideal) a) _)).trans ?_)
  rw [quot]
  refine congrArg (fun c => Rounding.codeR (Row.y (row a b s) c)) (Fin.ext ?_)
  show 16 * ((2 * q.val + e.val) / 16) + (2 * q.val + e.val) % 16 = 2 * q.val + e.val
  omega

/-- A byte of the packed codes. -/
theorem packed (b : Fin 16) (s : Fin 2048) (q : Fin 3456) :
    k0_pay1 (k0_pay10 (k0_pay6 (F := Ideal) a) (k0_pay7 a) (k0_pay8 a) (Scalar.ofBits .f32 0x3F800000#32) (Scalar.ofBits .f32 0x40000000#32))
        (k0_pay11 (k0_pay6 (F := Ideal) a) (k0_pay7 a) (k0_pay8 a) (Scalar.ofBits .f32 0x3F800000#32) (Scalar.ofBits .f32 0x40000000#32)) (ix3 b s q)
      = Row.byte (row a b s) q := by
  unfold Row.byte
  refine congrArg (BitVec.setWidth 8) (congrArg₂ (fun x y : BitVec 32 => x ||| IntOp.shli .vector y 4#32) ?_ ?_)
  · exact (even_at _ b s q).trans (code a b s q 0)
  · exact (odd_at _ b s q).trans (code a b s q 1)

end Cert.ReferenceIdeal.Hand

end
-- ==== Proof.RefVal.lean ====
/- What the reference's three results hold after the run, over the extended reals: each row's codes and scales. -/
module

public import proofs.«01_k».proof.Proof.RefRow

@[expose] public section

set_option maxRecDepth 16384

noncomputable section

namespace Cert.ReferenceIdeal.Hand

open Idealize.ShloMosaic Idealize.ShloMosaic.TcCoe Idealize.SL.Sem Cert.ReferenceIdeal.Gen Cert.ReferenceIdeal.Value

/-- The three results, as functions of the argument. -/
def Q0 (a : Vec Ideal S16x2048x6912 .bf16) : Vec Ideal S16x2048x3456 .i8 := fun j => Row.byte (row a (j 0) (j 1)) (j 2)
def Q1 (a : Vec Ideal S16x2048x6912 .bf16) : Vec Ideal S16x2048x432 .fp8e4m3 := fun j => Row.sB (row a (j 0) (j 1)) (j 2)
def Q2 (a : Vec Ideal S16x2048x6912 .bf16) : Vec Ideal S16x2048 .f32 := fun j => Row.sG (row a (j 0) (j 1))

/-- The packed codes. -/
theorem G1_eq (a : Vec Ideal S16x2048x6912 .bf16) : G1 (F := Ideal) a = Q0 a := by
  funext j
  idx_vars j
  unfold G1 k0_pay12 k0_pay13 k0_pay14
  rw [View.ld_unit_zero (S := S16x2048x6912) hz0 _ a]
  exact packed a j0 j1 j2

/-- The scales of the sub-blocks. -/
theorem G2_eq (a : Vec Ideal S16x2048x6912 .bf16) : G2 (F := Ideal) a = Q1 a := by
  funext j
  idx_vars j
  exact scale_blk a j0 j1 j2

/-- The scales of the rows. -/
theorem G3_eq (a : Vec Ideal S16x2048x6912 .bf16) : G3 (F := Ideal) a = Q2 a := by
  funext j
  idx_vars j
  exact scale_row a j0 j1

variable (m : (ℓ : Loc nD τ sig) → Buf (Elt Ideal) ℓ) (ρ : Dev nD → PrngReg)

/-- Every execution ends with the three results at the codes and scales of the argument's rows, the argument unchanged. -/
theorem run_values : θ_run defs (onTc (τ := τ) (main (F := Ideal))) ⟨m, fun _ => 0, ρ⟩ (fun r => ∀ c : Dev nD,
      r.2.mem ((c : Thread nD τ).loc main_v0_0) = Q0 (m ((c : Thread nD τ).loc main_arg0))
      ∧ r.2.mem ((c : Thread nD τ).loc main_v0_1) = Q1 (m ((c : Thread nD τ).loc main_arg0))
      ∧ r.2.mem ((c : Thread nD τ).loc main_v0_2) = Q2 (m ((c : Thread nD τ).loc main_arg0))
      ∧ r.2.mem ((c : Thread nD τ).loc main_arg0) = m ((c : Thread nD τ).loc main_arg0)) :=
  (θ_run defs _ _).mono (fun _ h c =>
    ⟨(h c).1.trans (G1_eq _), (h c).2.1.trans (G2_eq _), (h c).2.2.1.trans (G3_eq _), (h c).2.2.2⟩) (run m ρ)

end Cert.ReferenceIdeal.Hand

end
-- ==== Proof.lean ====
/- The certificate's claim: the kernel and its reference run without fault and leave their argument unchanged, and over the
   extended reals they compute the same packed codes, sub-block scales and row scales. -/
module

public import proofs.«01_k».proof.Defs
public import proofs.«01_k».proof.Proof.KernelFrame
public import proofs.«01_k».proof.Proof.KerVal
public import proofs.«01_k».proof.Proof.RefVal
public import proofs.«01_k».proof.Proof.Gen.ReferenceIdeal.Value
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- Over the extended reals kernel and reference end with the same three results: each row's packed codes, the scales of its
    sub-blocks and its own scale. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Hand.Q8 (m ((c.tc : Thread Cert.KernelIdeal.nD Cert.KernelIdeal.τ).loc Cert.KernelIdeal.main_arg0)),
    fun c => Cert.KernelIdeal.Hand.Q9 (m ((c.tc : Thread Cert.KernelIdeal.nD Cert.KernelIdeal.τ).loc Cert.KernelIdeal.main_arg0)),
    fun c => Cert.KernelIdeal.Hand.Q10 (m ((c.tc : Thread Cert.KernelIdeal.nD Cert.KernelIdeal.τ).loc Cert.KernelIdeal.main_arg0)),
    Cert.KernelIdeal.Hand.run_values m g, ?_⟩
  exact (θ_run _ _ _).mono (fun _ h c =>
    ⟨(h c).1.trans (congrArg Cert.ReferenceIdeal.Hand.Q0 (hargs c)), (h c).2.1.trans (congrArg Cert.ReferenceIdeal.Hand.Q1 (hargs c)),
      (h c).2.2.1.trans (congrArg Cert.ReferenceIdeal.Hand.Q2 (hargs c)), (h c).2.2.2⟩) (Cert.ReferenceIdeal.Hand.run_values m' g')

theorem claim : Cert.Claim :=
  ⟨Cert.Kernel.Gen.facts, Cert.KernelIdeal.Gen.facts, Cert.ReferenceIdeal.Gen.facts,
    fun m ρ _ => Cert.Kernel.Hand.quiescent m ρ,
    fun m ρ _ => Cert.KernelIdeal.Hand.quiescent m ρ,
    fun m ρ _ => Cert.ReferenceIdeal.Gen.frame m ρ,
    trivial,
    algebraic⟩

end Cert.Proof

end
